-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![8192, 1024]⟩ ⟨2, ![8192, 8192]⟩ 1 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![1024, 4096]⟩ ⟨2, ![8192, 4096]⟩ 0 8 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![1024, 4096]⟩ ⟨2, ![8192, 4096]⟩ 0 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v2) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8192x1024 : Shape := ⟨2, ![8192, 1024]⟩
abbrev S1024x4096 : Shape := ⟨2, ![1024, 4096]⟩
abbrev S4x2x1024x1024 : Shape := ⟨4, ![4, 2, 1024, 1024]⟩
abbrev S2x1024x1024 : Shape := ⟨3, ![2, 1024, 1024]⟩
abbrev S4x7 : Shape := ⟨2, ![4, 7]⟩
abbrev S8 : Shape := ⟨1, ![8]⟩
abbrev S4 : Shape := ⟨1, ![4]⟩
abbrev S_ : Shape := ⟨0, ![]⟩
abbrev S1 : Shape := ⟨1, ![1]⟩
abbrev S1x1024x1024 : Shape := ⟨3, ![1, 1024, 1024]⟩
abbrev S1024x1024 : Shape := ⟨2, ![1024, 1024]⟩
abbrev S1x1x1024x1024 : Shape := ⟨4, ![1, 1, 1024, 1024]⟩
abbrev S1x1 : Shape := ⟨2, ![1, 1]⟩

abbrev nBuf : Space → Nat
  | .hbm => 3
  | .vmem => 3
  | .smem => 0
  | _ => 0

abbrev bufTy : (tb : Table) → Fin (tcTables nBuf tb) → BufTy
  | .hbm, ⟨0, _⟩ => ⟨S8192x1024, .f32⟩
  | .hbm, ⟨1, _⟩ => ⟨S1024x4096, .f32⟩
  | .hbm, ⟨2, _⟩ => ⟨S1024x4096, .f32⟩
  | .local _ .vmem, ⟨0, _⟩ => ⟨S1024x4096, .f32⟩
  | .local _ .vmem, ⟨1, _⟩ => ⟨S4x2x1024x1024, .f32⟩
  | .local _ .vmem, ⟨2, _⟩ => ⟨S2x1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 2 → Bool
  | ⟨0, _⟩ => true
  | ⟨1, _⟩ => false
  | _ => false

abbrev dmaSemScoped : Fin 69 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | _ => false

abbrev sig : RefSig :=
  (ofTc nBuf bufTy 2 69 bufScoped semScoped dmaSemScoped tileCredit tileCredit_eq_zero tileCredit_pos).withBarriers [(0, 1)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_sem0_0 : DmaSem sig := 0
abbrev barrier0 : Sem sig := 1

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_6 : BitVec 32 := 1#32
  let v9 : BitVec 32 := Scalar.muli v5 c1_i32_6
  let v10 : BitVec 32 := Scalar.addi c0_i32 v9
  v10.toNat
def k0_dev2 (d0 : Dev nD) : Nat :=
  let c0_i32_9 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_8 : BitVec 32 := 1#32
  let v11 : BitVec 32 := Scalar.muli v7 c1_i32_8
  let v12 : BitVec 32 := Scalar.addi c0_i32_9 v11
  v12.toNat
def k0_off1 (d0 : Dev nD) (c7_i32 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v13 : BitVec 32 := Scalar.addi v2 c7_i32
  let c8_i32_10 : BitVec 32 := 8#32
  let v14 : BitVec 32 := Scalar.remsi v13 c8_i32_10
  let c1024_i32 : BitVec 32 := 1024#32
  let v15 : BitVec 32 := Scalar.muli v14 c1024_i32
  let c0_i32_15 : BitVec 32 := 0#32
  ![v15.toNat, 0]
def k0_dev3 (d0 : Dev nD) : Nat :=
  let c0_i32_48 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_47 : BitVec 32 := 1#32
  let v45 : BitVec 32 := Scalar.muli v7 c1_i32_47
  let v46 : BitVec 32 := Scalar.addi c0_i32_48 v45
  v46.toNat
def k0_dev4 (d0 : Dev nD) : Nat :=
  let c0_i32_70 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_69 : BitVec 32 := 1#32
  let v63 : BitVec 32 := Scalar.muli v7 c1_i32_69
  let v64 : BitVec 32 := Scalar.addi c0_i32_70 v63
  v64.toNat
def k0_dev5 (d0 : Dev nD) : Nat :=
  let c0_i32_90 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_89 : BitVec 32 := 1#32
  let v79 : BitVec 32 := Scalar.muli v5 c1_i32_89
  let v80 : BitVec 32 := Scalar.addi c0_i32_90 v79
  v80.toNat
def k0_dev6 (d0 : Dev nD) : Nat :=
  let c0_i32_108 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_107 : BitVec 32 := 1#32
  let v89 : BitVec 32 := Scalar.muli v7 c1_i32_107
  let v90 : BitVec 32 := Scalar.addi c0_i32_108 v89
  v90.toNat
def k0_dev7 (d0 : Dev nD) : Nat :=
  let c0_i32_128 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_127 : BitVec 32 := 1#32
  let v105 : BitVec 32 := Scalar.muli v5 c1_i32_127
  let v106 : BitVec 32 := Scalar.addi c0_i32_128 v105
  v106.toNat
def k0_dev8 (d0 : Dev nD) : Nat :=
  let c0_i32_145 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_144 : BitVec 32 := 1#32
  let v115 : BitVec 32 := Scalar.muli v7 c1_i32_144
  let v116 : BitVec 32 := Scalar.addi c0_i32_145 v115
  v116.toNat
def k0_dev9 (d0 : Dev nD) : Nat :=
  let c0_i32_165 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_164 : BitVec 32 := 1#32
  let v131 : BitVec 32 := Scalar.muli v5 c1_i32_164
  let v132 : BitVec 32 := Scalar.addi c0_i32_165 v131
  v132.toNat
def k0_dev10 (d0 : Dev nD) : Nat :=
  let c0_i32_220 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_219 : BitVec 32 := 1#32
  let v168 : BitVec 32 := Scalar.muli v7 c1_i32_219
  let v169 : BitVec 32 := Scalar.addi c0_i32_220 v168
  v169.toNat
def k0_dev11 (d0 : Dev nD) : Nat :=
  let c0_i32_240 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_239 : BitVec 32 := 1#32
  let v184 : BitVec 32 := Scalar.muli v5 c1_i32_239
  let v185 : BitVec 32 := Scalar.addi c0_i32_240 v184
  v185.toNat
def k0_dev12 (d0 : Dev nD) : Nat :=
  let c0_i32_280 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_279 : BitVec 32 := 1#32
  let v205 : BitVec 32 := Scalar.muli v7 c1_i32_279
  let v206 : BitVec 32 := Scalar.addi c0_i32_280 v205
  v206.toNat
def k0_dev13 (d0 : Dev nD) : Nat :=
  let c0_i32_300 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_299 : BitVec 32 := 1#32
  let v221 : BitVec 32 := Scalar.muli v5 c1_i32_299
  let v222 : BitVec 32 := Scalar.addi c0_i32_300 v221
  v222.toNat
def k0_dev14 (d0 : Dev nD) : Nat :=
  let c0_i32_340 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_339 : BitVec 32 := 1#32
  let v242 : BitVec 32 := Scalar.muli v7 c1_i32_339
  let v243 : BitVec 32 := Scalar.addi c0_i32_340 v242
  v243.toNat
def k0_dev15 (d0 : Dev nD) : Nat :=
  let c0_i32_360 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_359 : BitVec 32 := 1#32
  let v258 : BitVec 32 := Scalar.muli v5 c1_i32_359
  let v259 : BitVec 32 := Scalar.addi c0_i32_360 v258
  v259.toNat
def k0_dev16 (d0 : Dev nD) : Nat :=
  let c0_i32_400 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_399 : BitVec 32 := 1#32
  let v279 : BitVec 32 := Scalar.muli v7 c1_i32_399
  let v280 : BitVec 32 := Scalar.addi c0_i32_400 v279
  v280.toNat
def k0_dev17 (d0 : Dev nD) : Nat :=
  let c0_i32_420 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_419 : BitVec 32 := 1#32
  let v295 : BitVec 32 := Scalar.muli v5 c1_i32_419
  let v296 : BitVec 32 := Scalar.addi c0_i32_420 v295
  v296.toNat
def k0_dev18 (d0 : Dev nD) : Nat :=
  let c0_i32_475 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_474 : BitVec 32 := 1#32
  let v332 : BitVec 32 := Scalar.muli v7 c1_i32_474
  let v333 : BitVec 32 := Scalar.addi c0_i32_475 v332
  v333.toNat
def k0_dev19 (d0 : Dev nD) : Nat :=
  let c0_i32_495 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_494 : BitVec 32 := 1#32
  let v348 : BitVec 32 := Scalar.muli v5 c1_i32_494
  let v349 : BitVec 32 := Scalar.addi c0_i32_495 v348
  v349.toNat
def k0_dev20 (d0 : Dev nD) : Nat :=
  let c0_i32_535 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_534 : BitVec 32 := 1#32
  let v369 : BitVec 32 := Scalar.muli v7 c1_i32_534
  let v370 : BitVec 32 := Scalar.addi c0_i32_535 v369
  v370.toNat
def k0_dev21 (d0 : Dev nD) : Nat :=
  let c0_i32_555 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_554 : BitVec 32 := 1#32
  let v385 : BitVec 32 := Scalar.muli v5 c1_i32_554
  let v386 : BitVec 32 := Scalar.addi c0_i32_555 v385
  v386.toNat
def k0_dev22 (d0 : Dev nD) : Nat :=
  let c0_i32_595 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_594 : BitVec 32 := 1#32
  let v406 : BitVec 32 := Scalar.muli v7 c1_i32_594
  let v407 : BitVec 32 := Scalar.addi c0_i32_595 v406
  v407.toNat
def k0_dev23 (d0 : Dev nD) : Nat :=
  let c0_i32_615 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_614 : BitVec 32 := 1#32
  let v422 : BitVec 32 := Scalar.muli v5 c1_i32_614
  let v423 : BitVec 32 := Scalar.addi c0_i32_615 v422
  v423.toNat
def k0_dev24 (d0 : Dev nD) : Nat :=
  let c0_i32_655 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_654 : BitVec 32 := 1#32
  let v443 : BitVec 32 := Scalar.muli v7 c1_i32_654
  let v444 : BitVec 32 := Scalar.addi c0_i32_655 v443
  v444.toNat
def k0_dev25 (d0 : Dev nD) : Nat :=
  let c0_i32_675 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_674 : BitVec 32 := 1#32
  let v459 : BitVec 32 := Scalar.muli v5 c1_i32_674
  let v460 : BitVec 32 := Scalar.addi c0_i32_675 v459
  v460.toNat
def k0_dev26 (d0 : Dev nD) : Nat :=
  let c0_i32_731 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_730 : BitVec 32 := 1#32
  let v496 : BitVec 32 := Scalar.muli v7 c1_i32_730
  let v497 : BitVec 32 := Scalar.addi c0_i32_731 v496
  v497.toNat
def k0_dev27 (d0 : Dev nD) : Nat :=
  let c0_i32_751 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_750 : BitVec 32 := 1#32
  let v512 : BitVec 32 := Scalar.muli v5 c1_i32_750
  let v513 : BitVec 32 := Scalar.addi c0_i32_751 v512
  v513.toNat
def k0_dev28 (d0 : Dev nD) : Nat :=
  let c0_i32_791 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_790 : BitVec 32 := 1#32
  let v533 : BitVec 32 := Scalar.muli v7 c1_i32_790
  let v534 : BitVec 32 := Scalar.addi c0_i32_791 v533
  v534.toNat
def k0_dev29 (d0 : Dev nD) : Nat :=
  let c0_i32_811 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_810 : BitVec 32 := 1#32
  let v549 : BitVec 32 := Scalar.muli v5 c1_i32_810
  let v550 : BitVec 32 := Scalar.addi c0_i32_811 v549
  v550.toNat
def k0_dev30 (d0 : Dev nD) : Nat :=
  let c0_i32_851 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_850 : BitVec 32 := 1#32
  let v570 : BitVec 32 := Scalar.muli v7 c1_i32_850
  let v571 : BitVec 32 := Scalar.addi c0_i32_851 v570
  v571.toNat
def k0_dev31 (d0 : Dev nD) : Nat :=
  let c0_i32_871 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_870 : BitVec 32 := 1#32
  let v586 : BitVec 32 := Scalar.muli v5 c1_i32_870
  let v587 : BitVec 32 := Scalar.addi c0_i32_871 v586
  v587.toNat
def k0_dev32 (d0 : Dev nD) : Nat :=
  let c0_i32_911 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_910 : BitVec 32 := 1#32
  let v607 : BitVec 32 := Scalar.muli v7 c1_i32_910
  let v608 : BitVec 32 := Scalar.addi c0_i32_911 v607
  v608.toNat
def k0_dev33 (d0 : Dev nD) : Nat :=
  let c0_i32_931 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_930 : BitVec 32 := 1#32
  let v623 : BitVec 32 := Scalar.muli v5 c1_i32_930
  let v624 : BitVec 32 := Scalar.addi c0_i32_931 v623
  v624.toNat
def k0_dev34 (d0 : Dev nD) : Nat :=
  let c0_i32_987 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_986 : BitVec 32 := 1#32
  let v660 : BitVec 32 := Scalar.muli v7 c1_i32_986
  let v661 : BitVec 32 := Scalar.addi c0_i32_987 v660
  v661.toNat
def k0_dev35 (d0 : Dev nD) : Nat :=
  let c0_i32_1007 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_1006 : BitVec 32 := 1#32
  let v676 : BitVec 32 := Scalar.muli v5 c1_i32_1006
  let v677 : BitVec 32 := Scalar.addi c0_i32_1007 v676
  v677.toNat
def k0_dev36 (d0 : Dev nD) : Nat :=
  let c0_i32_1047 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1046 : BitVec 32 := 1#32
  let v697 : BitVec 32 := Scalar.muli v7 c1_i32_1046
  let v698 : BitVec 32 := Scalar.addi c0_i32_1047 v697
  v698.toNat
def k0_dev37 (d0 : Dev nD) : Nat :=
  let c0_i32_1067 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_1066 : BitVec 32 := 1#32
  let v713 : BitVec 32 := Scalar.muli v5 c1_i32_1066
  let v714 : BitVec 32 := Scalar.addi c0_i32_1067 v713
  v714.toNat
def k0_dev38 (d0 : Dev nD) : Nat :=
  let c0_i32_1107 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1106 : BitVec 32 := 1#32
  let v734 : BitVec 32 := Scalar.muli v7 c1_i32_1106
  let v735 : BitVec 32 := Scalar.addi c0_i32_1107 v734
  v735.toNat
def k0_dev39 (d0 : Dev nD) : Nat :=
  let c0_i32_1127 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_1126 : BitVec 32 := 1#32
  let v750 : BitVec 32 := Scalar.muli v5 c1_i32_1126
  let v751 : BitVec 32 := Scalar.addi c0_i32_1127 v750
  v751.toNat
def k0_dev40 (d0 : Dev nD) : Nat :=
  let c0_i32_1167 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1166 : BitVec 32 := 1#32
  let v771 : BitVec 32 := Scalar.muli v7 c1_i32_1166
  let v772 : BitVec 32 := Scalar.addi c0_i32_1167 v771
  v772.toNat
def k0_dev41 (d0 : Dev nD) : Nat :=
  let c0_i32_1187 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_1186 : BitVec 32 := 1#32
  let v787 : BitVec 32 := Scalar.muli v5 c1_i32_1186
  let v788 : BitVec 32 := Scalar.addi c0_i32_1187 v787
  v788.toNat
def k0_dev42 (d0 : Dev nD) : Nat :=
  let c0_i32_1243 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1242 : BitVec 32 := 1#32
  let v824 : BitVec 32 := Scalar.muli v7 c1_i32_1242
  let v825 : BitVec 32 := Scalar.addi c0_i32_1243 v824
  v825.toNat
def k0_dev43 (d0 : Dev nD) : Nat :=
  let c0_i32_1263 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_1262 : BitVec 32 := 1#32
  let v840 : BitVec 32 := Scalar.muli v5 c1_i32_1262
  let v841 : BitVec 32 := Scalar.addi c0_i32_1263 v840
  v841.toNat
def k0_dev44 (d0 : Dev nD) : Nat :=
  let c0_i32_1303 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1302 : BitVec 32 := 1#32
  let v861 : BitVec 32 := Scalar.muli v7 c1_i32_1302
  let v862 : BitVec 32 := Scalar.addi c0_i32_1303 v861
  v862.toNat
def k0_dev45 (d0 : Dev nD) : Nat :=
  let c0_i32_1323 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_1322 : BitVec 32 := 1#32
  let v877 : BitVec 32 := Scalar.muli v5 c1_i32_1322
  let v878 : BitVec 32 := Scalar.addi c0_i32_1323 v877
  v878.toNat
def k0_dev46 (d0 : Dev nD) : Nat :=
  let c0_i32_1363 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1362 : BitVec 32 := 1#32
  let v898 : BitVec 32 := Scalar.muli v7 c1_i32_1362
  let v899 : BitVec 32 := Scalar.addi c0_i32_1363 v898
  v899.toNat
def k0_dev47 (d0 : Dev nD) : Nat :=
  let c0_i32_1383 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_1382 : BitVec 32 := 1#32
  let v914 : BitVec 32 := Scalar.muli v5 c1_i32_1382
  let v915 : BitVec 32 := Scalar.addi c0_i32_1383 v914
  v915.toNat
def k0_dev48 (d0 : Dev nD) : Nat :=
  let c0_i32_1423 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1422 : BitVec 32 := 1#32
  let v935 : BitVec 32 := Scalar.muli v7 c1_i32_1422
  let v936 : BitVec 32 := Scalar.addi c0_i32_1423 v935
  v936.toNat
def k0_dev49 (d0 : Dev nD) : Nat :=
  let c0_i32_1443 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_1442 : BitVec 32 := 1#32
  let v951 : BitVec 32 := Scalar.muli v5 c1_i32_1442
  let v952 : BitVec 32 := Scalar.addi c0_i32_1443 v951
  v952.toNat
def k0_off2 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1024_i32_1444 : BitVec 32 := 1024#32
  let v953 : BitVec 32 := Scalar.muli v2 c1024_i32_1444
  let c0_i32_1449 : BitVec 32 := 0#32
  ![v953.toNat, 0]
def k0_dev50 (d0 : Dev nD) : Nat :=
  let c0_i32_1497 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1496 : BitVec 32 := 1#32
  let v986 : BitVec 32 := Scalar.muli v7 c1_i32_1496
  let v987 : BitVec 32 := Scalar.addi c0_i32_1497 v986
  v987.toNat
def k0_dev51 (d0 : Dev nD) : Nat :=
  let c0_i32_1517 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c8_i32_0 : BitVec 32 := 8#32
  let v3 : BitVec 32 := Scalar.addi v2 c8_i32_0
  let c1_i32_1 : BitVec 32 := 1#32
  let v4 : BitVec 32 := Scalar.subi v3 c1_i32_1
  let c8_i32_2 : BitVec 32 := 8#32
  let v5 : BitVec 32 := Scalar.remsi v4 c8_i32_2
  let c1_i32_1516 : BitVec 32 := 1#32
  let v1002 : BitVec 32 := Scalar.muli v5 c1_i32_1516
  let v1003 : BitVec 32 := Scalar.addi c0_i32_1517 v1002
  v1003.toNat
def k0_dev52 (d0 : Dev nD) : Nat :=
  let c0_i32_1557 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1556 : BitVec 32 := 1#32
  let v1023 : BitVec 32 := Scalar.muli v7 c1_i32_1556
  let v1024 : BitVec 32 := Scalar.addi c0_i32_1557 v1023
  v1024.toNat
def k0_dev53 (d0 : Dev nD) : Nat :=
  let c0_i32_1614 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1613 : BitVec 32 := 1#32
  let v1058 : BitVec 32 := Scalar.muli v7 c1_i32_1613
  let v1059 : BitVec 32 := Scalar.addi c0_i32_1614 v1058
  v1059.toNat
def k0_dev54 (d0 : Dev nD) : Nat :=
  let c0_i32_1671 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_3 : BitVec 32 := 1#32
  let v6 : BitVec 32 := Scalar.addi v2 c1_i32_3
  let c8_i32_4 : BitVec 32 := 8#32
  let v7 : BitVec 32 := Scalar.remsi v6 c8_i32_4
  let c1_i32_1670 : BitVec 32 := 1#32
  let v1093 : BitVec 32 := Scalar.muli v7 c1_i32_1670
  let v1094 : BitVec 32 := Scalar.addi c0_i32_1671 v1093
  v1094.toNat
abbrev stage0_0 : Fin 1 → Memref sig .tc .vmem S1024x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S8192x8192 : Shape := ⟨2, ![8192, 8192]⟩
abbrev S8192x4096 : Shape := ⟨2, ![8192, 4096]⟩
abbrev S_ : Shape := ⟨0, ![]⟩

abbrev nBuf : Space → Nat
  | .hbm => 6
  | .vmem => 0
  | .smem => 0
  | _ => 0

abbrev bufTy : (tb : Table) → Fin (tcTables nBuf tb) → BufTy
  | .hbm, ⟨0, _⟩ => ⟨S8192x8192, .f32⟩
  | .hbm, ⟨1, _⟩ => ⟨S8192x4096, .f32⟩
  | .hbm, ⟨2, _⟩ => ⟨S8192x4096, .f32⟩
  | .hbm, ⟨3, _⟩ => ⟨S_, .f32⟩
  | .hbm, ⟨4, _⟩ => ⟨S8192x4096, .f32⟩
  | .hbm, ⟨5, _⟩ => ⟨S8192x4096, .f32⟩
  | _, _ => ⟨S8192x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Proof.Cells.lean ====
/-
  The kernel's ring, its memrefs and its semaphore cells.

  Eight devices form a ring; device `c` sends to `nxt c` and receives from `prv c`. A device runs 28 send
  steps, step `g` being column tile `g % 4` of round `g / 4`, and then four closing steps. Each step has its
  own send cell and its own receive cell, the credit cell is one regular semaphore signalled 24 times, each
  of the eight row chunks of `x` and of the four column tiles of the result has its own copy cell, and the
  barrier cell is the runtime's.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Release
public import Idealize.ShloMosaic.Lib.Tactic

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resource algebra -/

/-- The releases: one key per device and step whose slot the device hands back. -/
abbrev Key : Type := Dev nD × ℕ

/-- The proof's components: the pipeline's rounds, the ring's rounds (duties named by numbers), the releases. -/
abbrev UB : Type := URounds (GSem nD τ sig) ℕ
abbrev UK : Type := Release.USlots Key
abbrev UU : Type := UR sig nD τ × (UB × UK)

local notation "𝕄" => MT nD τ sig ℕ (Elt F) ℕ UU ℕ

abbrev EP : Emb (UR sig nD τ) (MT nD τ sig ℕ (Elt F) ℕ UU ℕ) := embL
def ER : Emb UB (MT nD τ sig ℕ (Elt F) ℕ UU ℕ) := (Emb.inl : Emb UB (UB × UK)).trans embR
def ES : Emb UK (MT nD τ sig ℕ (Elt F) ℕ UU ℕ) := (Emb.inr : Emb UK (UB × UK)).trans embR

instance ER_landsIn : (ER : Emb UB 𝕄).LandsIn (upEmb : UEmb _ 𝕄) := by unfold ER; infer_instance
instance ES_landsIn : (ES : Emb UK 𝕄).LandsIn (upEmb : UEmb _ 𝕄) := by unfold ES; infer_instance

/-! ## The ring -/

set_option backward.proofsInPublic true in
/-- The device that `c` sends to, -/
def nxt (c : Dev nD) : Dev nD := ⟨(c.val + 1) % 8, Nat.mod_lt _ (by decide)⟩
set_option backward.proofsInPublic true in
/-- and the device that sends to `c`. -/
def prv (c : Dev nD) : Dev nD := ⟨(c.val + 7) % 8, Nat.mod_lt _ (by decide)⟩

theorem prv_nxt (c : Dev nD) : prv (nxt c) = c := by revert c; decide
theorem nxt_prv (c : Dev nD) : nxt (prv c) = c := by revert c; decide
theorem nxt_ne_prv (c : Dev nD) : nxt c ≠ prv c := by revert c; decide

/-- The ring as a permutation of the devices. -/
def ring : Dev nD ≃ Dev nD := ⟨nxt, prv, prv_nxt, nxt_prv⟩

/-! ## The memrefs -/

theorem inb_comm (t k : ℕ) : ∀ a, (![t % 4, k % 2, 0, 0] : Fin 4 → Nat) a + S1x1x1024x1024.size a ≤ S4x2x1024x1024.size a := by
  have h1 := Nat.mod_lt t (show 4 > 0 by decide)
  have h2 := Nat.mod_lt k (show 2 > 0 by decide)
  intro a
  fin_cases a <;> simp [S1x1x1024x1024, S4x2x1024x1024] <;> omega

theorem inb_x (c i : ℕ) : ∀ a, (![1024 * ((c + 7 - i) % 8), 0] : Fin 2 → Nat) a + S1024x1024.size a ≤ S8192x1024.size a := by
  have h1 := Nat.mod_lt (c + 7 - i) (show 8 > 0 by decide)
  intro a
  fin_cases a <;> simp [S1024x1024, S8192x1024] <;> omega

theorem inb_xb (i : ℕ) : ∀ a, (![i % 2, 0, 0] : Fin 3 → Nat) a + S1x1024x1024.size a ≤ S2x1024x1024.size a := by
  have h1 := Nat.mod_lt i (show 2 > 0 by decide)
  intro a
  fin_cases a <;> simp [S1x1024x1024, S2x1024x1024] <;> omega

theorem inb_col (t : ℕ) : ∀ a, (![0, 1024 * (t % 4)] : Fin 2 → Nat) a + S1024x1024.size a ≤ S1024x4096.size a := by
  have h1 := Nat.mod_lt t (show 4 > 0 by decide)
  intro a
  fin_cases a <;> simp [S1024x1024, S1024x4096] <;> omega

/-- Tile `t`, slot `k` of the communication buffer: its rectangle, -/
abbrev commR (t k : ℕ) : Rect S4x2x1024x1024 := Rect.unit (s := S4x2x1024x1024) ![t % 4, k % 2, 0, 0] S1x1x1024x1024.size (inb_comm t k)
/-- and its memref. -/
abbrev commM (t k : ℕ) : Memref sig .tc .vmem S1024x1024 .f32 :=
  ((Memref.whole cc0_scratch0).slice (commR t k) (fun _ => rfl)).squeeze S1024x1024 squeezes_S1x1x1024x1024_S1024x1024

/-- Slot `i % 2` of the buffer that the row chunks of `x` are copied into: its rectangle, -/
abbrev xbR (i : ℕ) : Rect S2x1024x1024 := Rect.unit (s := S2x1024x1024) ![i % 2, 0, 0] S1x1024x1024.size (inb_xb i)
/-- and its memref. -/
abbrev xbM (i : ℕ) : Memref sig .tc .vmem S1024x1024 .f32 :=
  ((Memref.whole cc0_scratch1).slice (xbR i) (fun _ => rfl)).squeeze S1024x1024 squeezes_S1x1024x1024_S1024x1024

/-- The row chunk of `x` that device `c`'s copy `i` reads: chunk `c + 7 - i` modulo 8. -/
abbrev xR (c : Dev nD) (i : ℕ) : Rect S8192x1024 := Rect.unit (s := S8192x1024) ![1024 * ((c.val + 7 - i) % 8), 0] S1024x1024.size (inb_x c.val i)
abbrev xM (c : Dev nD) (i : ℕ) : Memref sig .tc .hbm S1024x1024 .f32 := (Memref.whole main_arg0).slice (xR c i) (fun _ => rfl)

/-- Column tile `t`: of `w` in its staging buffer, and of the result. -/
abbrev colR (t : ℕ) : Rect S1024x4096 := Rect.unit (s := S1024x4096) ![0, 1024 * (t % 4)] S1024x1024.size (inb_col t)
abbrev outM (t : ℕ) : Memref sig .tc .hbm S1024x1024 .f32 := (Memref.whole main_v1).slice (colR t) (fun _ => rfl)

/-! ## The semaphores -/

/-- The runtime's barrier semaphore and the kernel's credit semaphore. -/
abbrev barS : Sem sig := (SemArray.scalar (sig.barrier 0 rfl) : Sems sig S_).sem
abbrev creditS : Sem sig := cc0_scratch6.sem

set_option backward.proofsInPublic true in
/-- The DMA semaphores of step `g`'s send, -/
def sendS (g : ℕ) : DmaSem sig := ⟨(1 + 7 * (g % 4) + g / 4) % 69, Nat.mod_lt _ (by decide)⟩
set_option backward.proofsInPublic true in
/-- and receive, -/
def recvS (g : ℕ) : DmaSem sig := ⟨(29 + 7 * (g % 4) + g / 4) % 69, Nat.mod_lt _ (by decide)⟩
set_option backward.proofsInPublic true in
/-- of `x`'s copy `i`, -/
def xS (i : ℕ) : DmaSem sig := ⟨(57 + i) % 69, Nat.mod_lt _ (by decide)⟩
set_option backward.proofsInPublic true in
/-- and of the result's copy `t`. -/
def outS (t : ℕ) : DmaSem sig := ⟨(65 + t) % 69, Nat.mod_lt _ (by decide)⟩

/-- Step `g`'s number read back from the semaphores' row-major order (four rows of seven). -/
def stepOf (n : ℕ) : ℕ := 4 * (n % 7) + n / 7

theorem sendS_val {g : ℕ} (h : g < 28) : (sendS g).val = 1 + 7 * (g % 4) + g / 4 := Nat.mod_eq_of_lt (by omega)
theorem recvS_val {g : ℕ} (h : g < 28) : (recvS g).val = 29 + 7 * (g % 4) + g / 4 := Nat.mod_eq_of_lt (by omega)
theorem xS_val {i : ℕ} (h : i < 8) : (xS i).val = 57 + i := Nat.mod_eq_of_lt (by omega)
theorem outS_val {t : ℕ} (h : t < 4) : (outS t).val = 65 + t := Nat.mod_eq_of_lt (by omega)
theorem stepOf_eq {g : ℕ} (h : g < 28) : stepOf (7 * (g % 4) + g / 4) = g := by unfold stepOf; omega

abbrev barCell (c : Dev nD) : GSem nD τ sig := ((c : Thread nD τ), .reg barS)
abbrev creditCell (c : Dev nD) : GSem nD τ sig := ((c : Thread nD τ), .reg creditS)
abbrev sendCell (c : Dev nD) (g : ℕ) : GSem nD τ sig := ((c : Thread nD τ), .dma (sendS g))
abbrev recvCell (c : Dev nD) (g : ℕ) : GSem nD τ sig := ((c : Thread nD τ), .dma (recvS g))
abbrev xCell (c : Dev nD) (i : ℕ) : GSem nD τ sig := ((c : Thread nD τ), .dma (xS i))
abbrev outCell (c : Dev nD) (t : ℕ) : GSem nD τ sig := ((c : Thread nD τ), .dma (outS t))

theorem credit_ne_bar : creditS ≠ barS := by decide

/-- What a copy of one 1024 by 1024 block credits. -/
@[irreducible] def N : ℕ := (xbM 0).view.dmaCredit
theorem N_pos : 0 < N := by unfold N; exact View.dmaCredit_pos _ (by decide)
theorem amount_comm (t k : ℕ) (q : DmaSem sig) : (commM t k).view.amount (.dma q) = N := by unfold N; rfl
theorem amount_xb (i : ℕ) (q : DmaSem sig) : (xbM i).view.amount (.dma q) = N := by unfold N; rfl
theorem amount_out (t : ℕ) (q : DmaSem sig) : (outM t).view.amount (.dma q) = N := by unfold N; rfl

set_option backward.proofsInPublic true in
/-- The ring's semaphores in one row: the barrier, the DMA semaphores 1 to 68, the credit semaphore. -/
def csem (n : Fin 70) : SemLoc sig :=
  if n.val = 0 then .reg barS else if h : n.val < 69 then .dma ⟨n.val, h⟩ else .reg creditS
abbrev kcell (p : Dev nD × Fin 70) : GSem nD τ sig := ((p.1 : Thread nD τ), csem p.2)

theorem csem_bar : csem 0 = .reg barS := if_pos rfl
theorem csem_credit : csem 69 = .reg creditS := by unfold csem; rw [if_neg (by decide), dif_neg (by decide)]
theorem csem_dma (q : DmaSem sig) (h : 1 ≤ q.val) : csem ⟨q.val, Nat.lt_succ_of_lt q.isLt⟩ = .dma q := by
  unfold csem
  have hq : q.val < 69 := q.isLt
  rw [if_neg (by show ¬ q.val = 0; omega), dif_pos hq]

end Cert.RingProof
-- ==== Proof.Schedule.lean ====
/-
  What the buffers hold, and the schedule of the ring's cells.

  Every cell has one round. A copy's cell has the one duty `0` of a block's credit; a barrier cell has the
  duties `0` and `1`, one unit from each neighbour; a credit cell has the 24 duties `k`, the unit that says
  that the device's right neighbour has freed the slot step `k` was sent from.
-/
module

public import proofs.«01_k».proof.Proof.Cells
public import Mathlib.Algebra.BigOperators.Intervals

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (m : (ℓ : Loc nD τ sig) → Buf (Elt F) ℓ)

/-! ## Contents -/

/-- A block of 1024 by 1024 floats. -/
abbrev Blk (F : FTy → Type) : Type := S1024x1024.Idx → F .f32

/-- The row chunk of `x` that device `c`'s copy `i` brings. -/
def Xc (c : Dev nD) (i : ℕ) : Blk F := (xM c i).view.read (Elt F) (m ((c : Thread nD τ).loc main_arg0))

/-- The device's whole `w`, as its staging buffer holds it, -/
def wst (c : Dev nD) : (cc0_stg0_0 : Ref sig .tc).ty.Contents (Elt F) :=
  (win0_0.blk (0 : Fin 1)).view.read (Elt F) (m ((c : Thread nD τ).loc main_arg1))

/-- and its column tile `t`. -/
def wT (c : Dev nD) (t : ℕ) : Blk F := ((Memref.whole cc0_stg0_0).access (colR t)).read (Elt F) (wst m c)

/-- The product of a row chunk and a column tile. -/
def mm (X W : Blk F) : Blk F :=
  matmul dot_S1024x1024_S1024x1024_S1024x1024_1_0_0_1_n_n none X (shapeCast S1024x1024 W shapeCasts_S1024x1024_S1024x1024)
    (constant S1024x1024 .f32 0x00000000#32)

/-- The partial sum that device `c` holds of tile `t` in round `s`: its own product added to the sum that its
    left neighbour held a round before. -/
def part (c : Dev nD) : ℕ → ℕ → Blk F
  | 0, t => mm (Xc m c 0) (wT m c t)
  | s + 1, t => addf (part (prv c) s t) (mm (Xc m c (s + 1)) (wT m c t))

/-- The result's tile: the last round's sum, cut off below at zero. -/
def fin (c : Dev nD) (t : ℕ) : Blk F :=
  maximumf (part m c 7 t) (broadcast S1024x1024 (Scalar.ofBits .f32 0x00000000#32))

/-- A block held in full with some contents. -/
def anyOwn (c : Dev nD) {sp : Space} {sh : Shape} {e : EltTy} (M : Memref sig .tc sp sh e) : sProp 𝕄 :=
  iprop(∃ v : sh.Idx → Elt F e, owns (c : Thread nD τ) M fullShare v)

/-- A block held in full with the contents `v`. -/
abbrev own (c : Dev nD) {sp : Space} {sh : Shape} {e : EltTy} (M : Memref sig .tc sp sh e) (v : sh.Idx → Elt F e) : sProp 𝕄 :=
  owns (c : Thread nD τ) M fullShare v

instance anyOwn_storable (c : Dev nD) {sp : Space} {sh : Shape} {e : EltTy} (M : Memref sig .tc sp sh e) :
    BI.Storable (upEmb : UEmb _ 𝕄) (anyOwn (F := F) c M) := by unfold anyOwn; infer_instance

/-! ## The payloads -/

/-- The barrier: duty `1`, paid by `nxt c`, hands over the four slots of `nxt c` that `c` sends to first. -/
def barPay (c : Dev nD) (d : ℕ) : sProp 𝕄 :=
  if d = 1 then bigSep (Finset.range 4) (fun t => anyOwn (nxt c) (commM t 1)) else iprop(emp)

/-- The credits: duty `k` says that `nxt c` has released what steps `0` to `k` were sent from. -/
def credPay (c : Dev nD) (k : ℕ) : sProp 𝕄 :=
  bigSep (Finset.range (k + 1)) (fun i => Release.released (K := Key) (ES : Emb UK 𝕄) (nxt c, i) 1)

/-- A send hands its source slot back. -/
def sendPay (c : Dev nD) (g : ℕ) : sProp 𝕄 := anyOwn c (commM g (g / 4))
/-- A receive hands over the slot with the left neighbour's partial sum. -/
def recvPay (c : Dev nD) (g : ℕ) : sProp 𝕄 := own c (commM g (g / 4 + 1)) (part m (prv c) (g / 4) (g % 4))
/-- A copy of a row chunk hands over the slot with the chunk, and the chunk. -/
def xPay (c : Dev nD) (i : ℕ) : sProp 𝕄 := iprop(own c (xbM i) (Xc m c i) ∗ own c (xM c i) (Xc m c i))
/-- A copy of a tile of the result hands over the tile, and the slot it came from. -/
def outPay (c : Dev nD) (t : ℕ) : sProp 𝕄 := iprop(own c (outM t) (fin m c t) ∗ anyOwn c (commM t 0))

instance barPay_storable (c : Dev nD) (d : ℕ) : BI.Storable (upEmb : UEmb _ 𝕄) (barPay (F := F) c d) := by
  unfold barPay; split <;> infer_instance
instance credPay_storable (c : Dev nD) (k : ℕ) : BI.Storable (upEmb : UEmb _ 𝕄) (credPay (F := F) c k) := by
  unfold credPay; infer_instance
instance credPay_persistent (c : Dev nD) (k : ℕ) : BI.Persistent (credPay (F := F) c k) := by
  unfold credPay; infer_instance

/-- The payload of the DMA semaphore number `n`. -/
def dmaPay (c : Dev nD) (n : ℕ) : sProp 𝕄 :=
  if n < 29 then sendPay c (stepOf (n - 1)) else if n < 57 then recvPay m c (stepOf (n - 29))
  else if n < 65 then xPay m c (n - 57) else outPay m c (n - 65)

instance dmaPay_storable (c : Dev nD) (n : ℕ) : BI.Storable (upEmb : UEmb _ 𝕄) (dmaPay m c n) := by
  unfold dmaPay sendPay recvPay xPay outPay; (repeat' split) <;> infer_instance

/-! ## The schedule -/

/-- The duties of a semaphore's one round. -/
def dut : SemLoc sig → Finset ℕ
  | .reg s => if s = barS then Finset.range 2 else Finset.range 24
  | .dma q => if 1 ≤ q.val then {0} else ∅

/-- The units of one of them. -/
def amt : SemLoc sig → ℕ
  | .reg _ => 1
  | .dma _ => N

/-- What one of them hands over. -/
def pay (c : Dev nD) (d : ℕ) : SemLoc sig → sProp 𝕄
  | .reg s => if s = barS then barPay c d else credPay c d
  | .dma q => dmaPay m c q.val

def Rd : Rounds.Schedule (GSem nD τ sig) ℕ 𝕄 where
  duties g r := if r = 0 ∧ g.1.2 = .tc then dut g.2 else ∅
  unitless _ := False
  amount g _ _ := amt g.2
  payload g _ d := pay m g.1.1 d g.2
  amount_pos g _ _ _ := by
    unfold amt; split
    · exact Nat.one_pos
    · exact N_pos

instance Rd_payload_storable (g : GSem nD τ sig) (r d : ℕ) : BI.Storable (upEmb : UEmb _ 𝕄) ((Rd m).payload g r d) := by
  show BI.Storable upEmb (pay m g.1.1 d g.2)
  cases g.2 with
  | reg s => simp only [pay]; split <;> infer_instance
  | dma q => simp only [pay]; infer_instance

section Tables
variable (c : Dev nD)

theorem duties_cell (sm : SemLoc sig) : (Rd m).duties ((c : Thread nD τ), sm) 0 = dut sm := by
  dsimp only [Rd]; exact if_pos ⟨rfl, rfl⟩
theorem duties_later (g : GSem nD τ sig) : ∀ r, 1 ≤ r → (Rd m).duties g r = ∅ := fun r hr => if_neg fun h => by omega
theorem amount_cell (sm : SemLoc sig) (r d : ℕ) : (Rd m).amount ((c : Thread nD τ), sm) r d = amt sm := rfl
theorem payload_cell (sm : SemLoc sig) (r d : ℕ) : (Rd m).payload ((c : Thread nD τ), sm) r d = pay m c d sm := rfl
theorem expect_cell (sm : SemLoc sig) : (Rd m).expect ((c : Thread nD τ), sm) 0 = (dut sm).card * amt sm := by
  unfold Schedule.expect Schedule.amountOf
  rw [duties_cell, Finset.sum_congr rfl fun d _ => amount_cell m c sm 0 d, Finset.sum_const, smul_eq_mul]

theorem dut_dma (q : DmaSem sig) (h : 1 ≤ q.val) : dut (.dma q) = {0} := if_pos h
theorem dut_bar : dut (.reg barS) = Finset.range 2 := by unfold dut; exact if_pos rfl
theorem dut_cred : dut (.reg creditS) = Finset.range 24 := by unfold dut; exact if_neg credit_ne_bar
theorem pay_bar (d : ℕ) : pay m c d (.reg barS) = barPay c d := by unfold pay; exact if_pos rfl
theorem pay_cred (d : ℕ) : pay m c d (.reg creditS) = credPay c d := by unfold pay; exact if_neg credit_ne_bar

theorem expect_dma (q : DmaSem sig) (h : 1 ≤ q.val) : (Rd m).expect ((c : Thread nD τ), .dma q) 0 = N := by
  rw [expect_cell, dut_dma q h, Finset.card_singleton, one_mul]; rfl
theorem expect_bar : (Rd m).expect (barCell c) 0 = 2 := by rw [expect_cell, dut_bar]; rfl
theorem expect_cred : (Rd m).expect (creditCell c) 0 = 24 := by rw [expect_cell, dut_cred]; rfl

theorem sendS_pos {g : ℕ} (h : g < 28) : 1 ≤ (sendS g).val := by rw [sendS_val h]; omega
theorem recvS_pos {g : ℕ} (h : g < 28) : 1 ≤ (recvS g).val := by rw [recvS_val h]; omega
theorem xS_pos {i : ℕ} (h : i < 8) : 1 ≤ (xS i).val := by rw [xS_val h]; omega
theorem outS_pos {t : ℕ} (h : t < 4) : 1 ≤ (outS t).val := by rw [outS_val h]; omega

theorem pay_send {g : ℕ} (h : g < 28) (d : ℕ) : pay m c d (.dma (sendS g)) = sendPay c g := by
  show dmaPay m c (sendS g).val = _
  rw [sendS_val h]; unfold dmaPay
  rw [if_pos (by omega), show 1 + 7 * (g % 4) + g / 4 - 1 = 7 * (g % 4) + g / 4 by omega, stepOf_eq h]
theorem pay_recv {g : ℕ} (h : g < 28) (d : ℕ) : pay m c d (.dma (recvS g)) = recvPay m c g := by
  show dmaPay m c (recvS g).val = _
  rw [recvS_val h]; unfold dmaPay
  rw [if_neg (by omega), if_pos (by omega), show 29 + 7 * (g % 4) + g / 4 - 29 = 7 * (g % 4) + g / 4 by omega, stepOf_eq h]
theorem pay_x {i : ℕ} (h : i < 8) (d : ℕ) : pay m c d (.dma (xS i)) = xPay m c i := by
  show dmaPay m c (xS i).val = _
  rw [xS_val h]; unfold dmaPay
  rw [if_neg (by omega), if_neg (by omega), if_pos (by omega), show 57 + i - 57 = i by omega]
theorem pay_out {t : ℕ} (h : t < 4) (d : ℕ) : pay m c d (.dma (outS t)) = outPay m c t := by
  show dmaPay m c (outS t).val = _
  rw [outS_val h]; unfold dmaPay
  rw [if_neg (by omega), if_neg (by omega), if_neg (by omega), show 65 + t - 65 = t by omega]

/-- The rest of a copy's round, no duty taken, is its payload. -/
theorem rest_dma (q : DmaSem sig) (h : 1 ≤ q.val) :
    bigSep ((Rd m).duties ((c : Thread nD τ), .dma q) 0 \ ∅) (fun d => (Rd m).payload ((c : Thread nD τ), .dma q) 0 d) = pay m c 0 (.dma q) := by
  rw [Finset.sdiff_empty, duties_cell, dut_dma q h, bigSep_singleton, payload_cell]

end Tables

/-! ## What a device owes, and the levels -/

/-- Steps `sn` and later are still to be sent, credits `cs` and later still to be signalled. -/
def owed (c : Dev nD) (sn cs : ℕ) : CellTallies nD τ sig ℕ :=
  (∑ g ∈ Finset.Ico sn 28, tallyAt (recvCell (nxt c) g) 0 N) + ∑ k ∈ Finset.Ico cs 24, tallyAt (creditCell (prv c)) k 1

/-- At launch a device owes both neighbours' barriers as well. -/
def O₁ (c : Dev nD) : CellTallies nD τ sig ℕ := owed c 0 0 + tallyAt (barCell (nxt c)) 0 1
def O₀ (c : Dev nD) : CellTallies nD τ sig ℕ := O₁ c + tallyAt (barCell (prv c)) 0 1

theorem owed_send (c : Dev nD) {g cs : ℕ} (h : g < 28) : owed c g cs = owed c (g + 1) cs + tallyAt (recvCell (nxt c) g) 0 N := by
  unfold owed; rw [Finset.sum_eq_sum_Ico_succ_bot h]; ac_rfl
theorem owed_credit (c : Dev nD) {sn k : ℕ} (h : k < 24) : owed c sn k = owed c sn (k + 1) + tallyAt (creditCell (prv c)) k 1 := by
  unfold owed; rw [Finset.sum_eq_sum_Ico_succ_bot h]; ac_rfl
theorem owed_last (c : Dev nD) : owed c 28 24 = 0 := by unfold owed; rw [Finset.Ico_self, Finset.Ico_self, Finset.sum_empty, Finset.sum_empty, add_zero]

/-- Credit `k` is index `k` of its cell; everywhere else the one index is `0`. -/
def L (g : GSem nD τ sig) : Finset ℕ := if g.1.2 = .tc then Finset.range 28 else ∅

/-- The barrier at 1, step `g`'s receive and the credit for step `g`'s slot at `g + 2`, everything else at 0. -/
def lvS : SemLoc sig → ℕ → ℕ
  | .reg s, u => if s = barS then 1 else u + 2
  | .dma q, _ => if q.val < 29 then 0 else if q.val < 57 then stepOf (q.val - 29) + 2 else 0
def lv (g : GSem nD τ sig) (u : ℕ) : ℕ := lvS g.2 u

theorem L_of_ne (g : GSem nD τ sig) (h : g.1.2 ≠ .tc) : L g = ∅ := if_neg h
theorem L_tc (c : Dev nD) (sm : SemLoc sig) : L ((c : Thread nD τ), sm) = Finset.range 28 := if_pos rfl

theorem lvS_bar (u : ℕ) : lvS (.reg barS) u = 1 := by unfold lvS; exact if_pos rfl
theorem lvS_credit (u : ℕ) : lvS (.reg creditS) u = u + 2 := by unfold lvS; exact if_neg credit_ne_bar
theorem lvS_send {g : ℕ} (h : g < 28) (u : ℕ) : lvS (.dma (sendS g)) u = 0 := if_pos (by rw [sendS_val h]; omega)
theorem lvS_recv {g : ℕ} (h : g < 28) (u : ℕ) : lvS (.dma (recvS g)) u = g + 2 := by
  have hv := recvS_val h
  simp only [lvS]
  rw [if_neg (by omega), if_pos (by omega), hv, show 29 + 7 * (g % 4) + g / 4 - 29 = 7 * (g % 4) + g / 4 by omega, stepOf_eq h]
theorem lvS_x {i : ℕ} (h : i < 8) (u : ℕ) : lvS (.dma (xS i)) u = 0 := by
  have hv := xS_val h
  simp only [lvS]; rw [if_neg (by omega), if_neg (by omega)]
theorem lvS_out {t : ℕ} (h : t < 4) (u : ℕ) : lvS (.dma (outS t)) u = 0 := by
  have hv := outS_val h
  simp only [lvS]; rw [if_neg (by omega), if_neg (by omega)]

/-- A sum of tallies that is positive somewhere has a summand that is. -/
theorem sum_tally_pos {ι : Type} (s : Finset ι) (f : ι → CellTallies nD τ sig ℕ) {g : GSem nD τ sig} {u : ℕ}
    (h : 0 < (∑ i ∈ s, f i) g u) : ∃ i ∈ s, 0 < f i g u := by
  rw [Finset.sum_apply, Finsupp.finset_sum_apply] at h
  by_contra hn
  rw [Finset.sum_eq_zero fun i hi => Nat.le_zero.mp (not_lt.mp fun hp => hn ⟨i, hi, hp⟩)] at h
  exact Nat.lt_irrefl 0 h

theorem tallyAt_pos {g g' : GSem nD τ sig} {u u' k : ℕ} (h : 0 < (tallyAt g u k : CellTallies nD τ sig ℕ) g' u') : g' = g ∧ u' = u := by
  rw [tallyAt_apply] at h
  by_contra hn
  rw [if_neg hn] at h
  exact Nat.lt_irrefl 0 h

theorem owed_pos {c : Dev nD} {sn cs : ℕ} {g : GSem nD τ sig} {u : ℕ} (h : 0 < owed c sn cs g u) :
    (∃ j, sn ≤ j ∧ j < 28 ∧ g = recvCell (nxt c) j ∧ u = 0) ∨ (∃ k, cs ≤ k ∧ k < 24 ∧ g = creditCell (prv c) ∧ u = k) := by
  unfold owed at h
  rw [Pi.add_apply, Finsupp.add_apply] at h
  rcases Nat.pos_of_ne_zero (Nat.pos_iff_ne_zero.mp h) |> Nat.add_pos_iff_pos_or_pos.mp with h | h
  · obtain ⟨j, hj, hp⟩ := sum_tally_pos _ _ h
    rw [Finset.mem_Ico] at hj
    exact .inl ⟨j, hj.1, hj.2, tallyAt_pos hp⟩
  · obtain ⟨k, hk, hp⟩ := sum_tally_pos _ _ h
    rw [Finset.mem_Ico] at hk
    exact .inr ⟨k, hk.1, hk.2, tallyAt_pos hp⟩

theorem O₀_pos {c : Dev nD} {g : GSem nD τ sig} {u : ℕ} (h : 0 < O₀ c g u) :
    0 < owed c 0 0 g u ∨ (g = barCell (nxt c) ∧ u = 0) ∨ (g = barCell (prv c) ∧ u = 0) := by
  unfold O₀ O₁ at h
  rw [Pi.add_apply, Finsupp.add_apply, Pi.add_apply, Finsupp.add_apply] at h
  rcases Nat.add_pos_iff_pos_or_pos.mp h with h | h
  · rcases Nat.add_pos_iff_pos_or_pos.mp h with h | h
    · exact .inl h
    · exact .inr (.inl (tallyAt_pos h))
  · exact .inr (.inr (tallyAt_pos h))

theorem owed_levels {c : Dev nD} {sn cs b : ℕ} (h₁ : sn < 28 → b < sn + 2) (h₂ : cs < 24 → b < cs + 2) {g : GSem nD τ sig} {u : ℕ} (h : 0 < owed c sn cs g u) :
    u ∈ L g ∧ b < lv g u := by
  rcases owed_pos h with ⟨j, hj, hj', rfl, rfl⟩ | ⟨k, hk, hk', rfl, rfl⟩
  · refine ⟨by rw [L_tc]; decide, ?_⟩
    show b < lvS _ _; rw [lvS_recv hj']; have := h₁ (by omega); omega
  · refine ⟨by rw [L_tc, Finset.mem_range]; omega, ?_⟩
    show b < lvS _ _; rw [lvS_credit]; have := h₂ (by omega); omega

/-- A device may wait at a cell that lies below everything it still owes. -/
theorem mayWait (c : Dev nD) (sm : SemLoc sig) (u : ℕ) {sn cs : ℕ} (hu : u < 28) (h₁ : sn < 28 → lvS sm u < sn + 2)
    (h₂ : cs < 24 → lvS sm u < cs + 2) :
    (levAts L lv : sProp 𝕄) ⊢ MayWait (c : Thread nD τ) sm u (owed c sn cs) :=
  MayOwe.of_cut (L := L) (lev := lv) (lvS sm u) (fun p hp => by rw [Finset.mem_singleton.mp hp, L_tc]; exact Finset.mem_range.mpr hu)
    (fun g v hg => (owed_levels h₁ h₂ hg).1) (fun p hp => by rw [Finset.mem_singleton.mp hp]; exact le_rfl)
    (fun g v hg => (owed_levels h₁ h₂ hg).2)

/-- The staging copies lie below everything: a device may wait for them with all its debts, or with none. -/
theorem mayWait_stage (c : Dev nD) (q : DmaSem sig) (hq : lvS (.dma q) 0 = 0) (O : CellTallies nD τ sig ℕ) (hO : O = O₀ c ∨ O = 0) :
    (levAts L lv : sProp 𝕄) ⊢ MayWait (c : Thread nD τ) (.dma q) 0 O := by
  rcases hO with rfl | rfl
  · have key : ∀ {g : GSem nD τ sig} {u : ℕ}, 0 < O₀ c g u → u ∈ L g ∧ 0 < lv g u := by
      intro g u hg
      rcases O₀_pos hg with h | ⟨rfl, rfl⟩ | ⟨rfl, rfl⟩
      · exact owed_levels (by omega) (by omega) h
      · exact ⟨by rw [L_tc]; decide, by show 0 < lvS _ _; rw [lvS_bar]; omega⟩
      · exact ⟨by rw [L_tc]; decide, by show 0 < lvS _ _; rw [lvS_bar]; omega⟩
    exact MayOwe.of_cut (L := L) (lev := lv) 0 (fun p hp => by rw [Finset.mem_singleton.mp hp, L_tc]; exact Finset.mem_range.mpr (Nat.zero_lt_succ 27))
      (fun g u hg => (key hg).1) (fun p hp => by rw [Finset.mem_singleton.mp hp]; exact hq.le) (fun g u hg => (key hg).2)
  · rw [MayWait_zero]; iintro -; iempintro

end Cert.RingProof
-- ==== Proof.State.lean ====
/-
  The state of one device between two operations of the kernel.

  The device does everything in a fixed order, so what it holds is told by how far each kind of operation has
  got: copies of `x` started and waited for, receives waited for, credits waited for, sends started and waited
  for, credits signalled, copies of the result started and waited for.
-/
module

public import proofs.«01_k».proof.Proof.Schedule
public import Idealize.SL.BI.BigOpNat

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (m : (ℓ : Loc nD τ sig) → Buf (Elt F) ℓ)

/-! ## Runs of like assertions -/

/-- One assertion for every number from `a` up to `b`. -/
def pool (a b : ℕ) (P : ℕ → sProp 𝕄) : sProp 𝕄 := bigSep (Finset.Ico a b) P

/-- The first is taken out, -/
theorem pool_pop {a b : ℕ} (h : a < b) (P : ℕ → sProp 𝕄) : pool a b P ⊢ iprop(P a ∗ pool (a + 1) b P) := by
  unfold pool; exact Entails.of_eq (bigSep_Ico_succ_bot h P)
/-- one more is put behind the last, -/
theorem pool_push {a b : ℕ} (h : a ≤ b) (P : ℕ → sProp 𝕄) : iprop(P b ∗ pool a b P) ⊢ pool a (b + 1) P := by
  unfold pool; exact Entails.of_eq (bigSep_Ico_succ_top h P).symm
/-- one is lent. -/
theorem pool_at {a b i : ℕ} (h₁ : a ≤ i) (h₂ : i < b) (P : ℕ → sProp 𝕄) : pool a b P ⊢ iprop(P i ∗ (P i -∗ pool a b P)) := by
  unfold pool
  have e : bigSep (Finset.Ico a b) P = iprop(P i ∗ bigSep ((Finset.Ico a b).erase i) P) := bigSep_erase (Finset.mem_Ico.mpr ⟨h₁, h₂⟩)
  rw [e]
  iintro ⟨H, Hr⟩
  isplitl [H]; · iexact H
  iintro H; isplitl [H] <;> iassumption
theorem pool_nil {a b : ℕ} (h : b ≤ a) (P : ℕ → sProp 𝕄) : pool a b P = iprop(emp) := by
  unfold pool; rw [Finset.Ico_eq_empty_of_le h, bigSep_empty]; rfl

/-- A queue of `n` tasks, `b` of them finished and `a` of them started. -/
def que (n a b : ℕ) (P₀ P₁ P₂ : ℕ → sProp 𝕄) : sProp 𝕄 := iprop(pool a n P₀ ∗ pool b a P₁ ∗ pool 0 b P₂)

/-- The next task starts, -/
theorem que_start {n a b : ℕ} (h : a < n) (hb : b ≤ a) (P₀ P₁ P₂ : ℕ → sProp 𝕄) :
    que n a b P₀ P₁ P₂ ⊢ iprop(P₀ a ∗ (P₁ a -∗ que n (a + 1) b P₀ P₁ P₂)) := by
  unfold que
  iintro ⟨H0, H1, H2⟩
  ihave H0 := pool_pop h P₀ $$ H0
  icases H0 with ⟨Ha, H0⟩
  isplitl [Ha]; · iexact Ha
  iintro Hp
  isplitl [H0]; · iexact H0
  isplitr [H2]
  · iapply (pool_push hb P₁); isplitl [Hp] <;> iassumption
  · iexact H2
/-- and the first that runs finishes. -/
theorem que_finish {n a b : ℕ} (h : b < a) (P₀ P₁ P₂ : ℕ → sProp 𝕄) :
    que n a b P₀ P₁ P₂ ⊢ iprop(P₁ b ∗ (P₂ b -∗ que n a (b + 1) P₀ P₁ P₂)) := by
  unfold que
  iintro ⟨H0, H1, H2⟩
  ihave H1 := pool_pop h P₁ $$ H1
  icases H1 with ⟨Hb, H1⟩
  isplitl [Hb]; · iexact Hb
  iintro Hp
  isplitl [H0]; · iexact H0
  isplitl [H1]; · iexact H1
  iapply (pool_push (Nat.zero_le b) P₂); isplitl [Hp] <;> iassumption

/-! ## What every device knows -/

/-- The invariant behind step `k`'s slot of device `c`. -/
abbrev slotOf (k : Key) : sProp 𝕄 := anyOwn (F := F) k.1 (commM k.2 (k.2 / 4))

/-- Every cell's invariant and its round 0, every released slot's invariant, and the levels. -/
def Rec : sProp 𝕄 :=
  iprop((bigSep (Finset.univ : Finset (Dev nD × Fin 70)) fun p => iprop((∃ κ, cellInv ER (Rd m) κ (kcell p)) ∗ reached (ER : Emb UB 𝕄) (kcell p) 0))
    ∗ (∃ ι : Key → ℕ, bigSep ((Finset.univ : Finset (Dev nD)) ×ˢ Finset.range 24) fun k => Release.slotInv (ES : Emb UK 𝕄) (ι k) k (slotOf k))
    ∗ levAts L lv)

instance Rec_persistent : BI.Persistent (Rec m) := by unfold Rec; infer_instance

theorem rec_cell (p : Dev nD × Fin 70) : Rec m ⊢ iprop((∃ κ, cellInv ER (Rd m) κ (kcell p)) ∗ reached (ER : Emb UB 𝕄) (kcell p) 0) := by
  unfold Rec
  exact Laws.sep_and.trans (and_elimL.trans (bigSep_elim (Φ := fun p : Dev nD × Fin 70 => iprop((∃ κ, cellInv ER (Rd m) κ (kcell p)) ∗ reached (ER : Emb UB 𝕄) (kcell p) 0)) (Finset.mem_univ p)))
theorem rec_dma (c : Dev nD) (q : DmaSem sig) (h : 1 ≤ q.val) :
    Rec m ⊢ iprop((∃ κ, cellInv ER (Rd m) κ ((c : Thread nD τ), .dma q)) ∗ reached (ER : Emb UB 𝕄) ((c : Thread nD τ), .dma q) 0) := by
  have := rec_cell m (c, ⟨q.val, Nat.lt_succ_of_lt q.isLt⟩)
  rwa [show kcell (c, ⟨q.val, Nat.lt_succ_of_lt q.isLt⟩) = ((c : Thread nD τ), SemLoc.dma q) from by unfold kcell; rw [csem_dma q h]] at this
theorem rec_bar (c : Dev nD) : Rec m ⊢ iprop((∃ κ, cellInv ER (Rd m) κ (barCell c)) ∗ reached (ER : Emb UB 𝕄) (barCell c) 0) := by
  have := rec_cell m (c, 0)
  rwa [show kcell (c, 0) = barCell c from by unfold kcell; rw [csem_bar]] at this
theorem rec_credit (c : Dev nD) : Rec m ⊢ iprop((∃ κ, cellInv ER (Rd m) κ (creditCell c)) ∗ reached (ER : Emb UB 𝕄) (creditCell c) 0) := by
  have := rec_cell m (c, 69)
  rwa [show kcell (c, 69) = creditCell c from by unfold kcell; rw [csem_credit]] at this
theorem rec_slot (c : Dev nD) {k : ℕ} (h : k < 24) : Rec m ⊢ iprop(∃ ι, Release.slotInv (ES : Emb UK 𝕄) ι (c, k) (slotOf (c, k))) := by
  unfold Rec
  iintro ⟨-, ⟨%ι, H⟩, -⟩
  have e : (bigSep ((Finset.univ : Finset (Dev nD)) ×ˢ Finset.range 24) fun k => Release.slotInv (ES : Emb UK 𝕄) (ι k) k (slotOf k))
      ⊢ Release.slotInv (ES : Emb UK 𝕄) (ι (c, k)) (c, k) (slotOf (c, k)) :=
    bigSep_elim (Finset.mem_product.mpr ⟨Finset.mem_univ c, Finset.mem_range.mpr h⟩)
  iexists ι (c, k)
  iapply e; iexact H
theorem rec_lev : Rec m ⊢ (levAts L lv : sProp 𝕄) := by
  unfold Rec
  iintro ⟨-, -, H⟩; iexact H

/-! ## The parts of the state -/

section Parts
variable (c : Dev nD)

/-- What the device owes. -/
def OW (sn cs : ℕ) : sProp 𝕄 := iprop(∃ W, owes (c : Thread nD τ) (owed c sn cs) W)

/-- A copy of a row chunk, before, while and after it runs. -/
def xTodo (i : ℕ) : sProp 𝕄 := iprop(dutyTok (ER : Emb UB 𝕄) (xCell c i) 0 0 ∗ atPos (ER : Emb UB 𝕄) (xCell c i) 0 ∅ 0 ∗ own c (xM c i) (Xc m c i))
def xRun (i : ℕ) : sProp 𝕄 := iprop(cred (tallyAt (xCell c i) 0 N) ∗ atPos (ER : Emb UB 𝕄) (xCell c i) 0 ∅ 0)
def xDone (i : ℕ) : sProp 𝕄 := iprop(atPos (ER : Emb UB 𝕄) (xCell c i) 1 ∅ 0 ∗ own c (xM c i) (Xc m c i))
/-- The slot that copy `i` may be started into: from the third copy on it holds the chunk of two copies before. -/
def xSlot (i : ℕ) : sProp 𝕄 := if i < 2 then anyOwn c (xbM i) else own c (xbM i) (Xc m c (i - 2))
def XQ (xs xw : ℕ) : sProp 𝕄 := iprop(que 8 xs xw (xTodo m c) (xRun c) (xDone m c) ∗ pool xs (xw + 2) (xSlot m c))

/-- A receive, before and after its wait. -/
def rTodo (g : ℕ) : sProp 𝕄 := iprop(cred (tallyAt (recvCell c g) 0 N) ∗ atPos (ER : Emb UB 𝕄) (recvCell c g) 0 ∅ 0)
def rDone (g : ℕ) : sProp 𝕄 := atPos (ER : Emb UB 𝕄) (recvCell c g) 1 ∅ 0
def RQ (rc : ℕ) : sProp 𝕄 := iprop(pool rc 28 (rTodo c) ∗ pool 0 rc (rDone c))

/-- A send, before, while and after it runs: afterwards its slot is released, but for the last four. -/
def sRel (g : ℕ) : sProp 𝕄 := if g < 24 then Release.readerAt (ES : Emb UK 𝕄) (c, g) 0 else iprop(emp)
def sTodo (g : ℕ) : sProp 𝕄 :=
  iprop(dutyTok (ER : Emb UB 𝕄) (sendCell c g) 0 0 ∗ dutyTok (ER : Emb UB 𝕄) (recvCell (nxt c) g) 0 0 ∗ atPos (ER : Emb UB 𝕄) (sendCell c g) 0 ∅ 0 ∗ sRel c g)
def sRun (g : ℕ) : sProp 𝕄 := iprop(cred (tallyAt (sendCell c g) 0 N) ∗ atPos (ER : Emb UB 𝕄) (sendCell c g) 0 ∅ 0 ∗ sRel c g)
def sDone (g : ℕ) : sProp 𝕄 :=
  iprop(atPos (ER : Emb UB 𝕄) (sendCell c g) 1 ∅ 0 ∗ (if g < 24 then Release.released (ES : Emb UK 𝕄) (c, g) 1 else iprop(emp)))
def SQ (sn sw : ℕ) : sProp 𝕄 := que 28 sn sw (sTodo c) (sRun c) (sDone c)

/-- A slot of the right neighbour: the right to take it back once it is released, and the slot. -/
def dTodo (k : ℕ) : sProp 𝕄 := iprop(Release.writeTok (ES : Emb UK 𝕄) (nxt c, k) 1 ∗ cred (tallyAt (creditCell c) k 1))
def dSlot (g : ℕ) : sProp 𝕄 := anyOwn (nxt c) (commM g (g / 4 + 1))
/-- The credit cell after `k` waits: some duties have landed, at least as many as units were taken. -/
def credAt (k : ℕ) : sProp 𝕄 :=
  if k < 24 then iprop(∃ T : Finset ℕ, ⌜T ⊆ Finset.range 24 ∧ k + (Finset.range 24 \ T).card ≤ 24⌝ ∗ atPos (ER : Emb UB 𝕄) (creditCell c) 0 T k ∗ bigSep T (credPay c))
  else atPos (ER : Emb UB 𝕄) (creditCell c) 1 ∅ 0
def DQ (sn cw : ℕ) : sProp 𝕄 := iprop(pool cw 24 (dTodo c) ∗ pool sn (cw + 4) (dSlot c) ∗ credAt c cw)

/-- The credits still to be signalled. -/
def CQ (cs : ℕ) : sProp 𝕄 := pool cs 24 fun k => dutyTok (ER : Emb UB 𝕄) (creditCell (prv c)) 0 k

/-- A copy of a tile of the result, before, while and after it runs. -/
def oTodo (t : ℕ) : sProp 𝕄 := iprop(dutyTok (ER : Emb UB 𝕄) (outCell c t) 0 0 ∗ atPos (ER : Emb UB 𝕄) (outCell c t) 0 ∅ 0 ∗ anyOwn c (outM t))
def oRun (t : ℕ) : sProp 𝕄 := iprop(cred (tallyAt (outCell c t) 0 N) ∗ atPos (ER : Emb UB 𝕄) (outCell c t) 0 ∅ 0)
def oDone (t : ℕ) : sProp 𝕄 := iprop(atPos (ER : Emb UB 𝕄) (outCell c t) 1 ∅ 0 ∗ own c (outM t) (fin m c t) ∗ anyOwn c (commM t 0))
def OQ (os ow : ℕ) : sProp 𝕄 := que 4 os ow (oTodo c) (oRun c) (oDone m c)

/-- The device's `w`. -/
def WS : sProp 𝕄 := ((c : Thread nD τ).loc cc0_stg0_0) ↦{fullShare} wst m c

/-- The free slots of the communication buffer: those of the first round before they are filled, those that the
    last four sends gave back, those whose last partial sum has been used. -/
def FQ (ini sw fs : ℕ) : sProp 𝕄 :=
  iprop(pool ini 4 (fun t => anyOwn c (commM t (t / 4))) ∗ pool (24 + fs) sw (fun g => anyOwn c (commM g (g / 4)))
    ∗ pool 0 fs (fun t => anyOwn c (commM (28 + t) ((28 + t) / 4))))

/-- The slot that the device is working on, with its contents. -/
def CU : Option (ℕ × Blk F) → sProp 𝕄
  | none => iprop(emp)
  | some (g, v) => own c (commM g (g / 4)) v

end Parts

/-- The state: `xs`, `xw` copies of `x` started and waited for, `rc` receives and `cw` credits waited for, `sn`, `sw`
    sends started and waited for, `cs` credits signalled, `os`, `ow` copies of the result started and waited for,
    `ini` slots filled in the first round, `fs` tiles of the result computed, and the slot being worked on. -/
def St (c : Dev nD) (xs xw rc cw sn sw cs os ow ini fs : ℕ) (cur : Option (ℕ × Blk F)) : sProp 𝕄 :=
  iprop(Rec m ∗ OW c sn cs ∗ XQ m c xs xw ∗ RQ c rc ∗ SQ c sn sw ∗ DQ c sn cw ∗ CQ c cs ∗ OQ m c os ow ∗ WS m c ∗ FQ c ini sw fs ∗ CU c cur)

end Cert.RingProof
-- ==== Proof.Memory.lean ====
/-
  The buffers, cut into the blocks that the ring's copies move, and put together again.
-/
module

public import proofs.«01_k».proof.Proof.State
public import Idealize.ShloMosaic.Lib.Pipeline.ValueKit.Geometry

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable {m : (ℓ : Loc nD τ sig) → Buf (Elt F) ℓ} {c : Dev nD}

/-! ## Blocks with any contents -/

/-- Holding a block with some contents is holding its elements at some contents of the buffer. -/
theorem anyOwn_eq {sp : Space} {sh : Shape} {e : EltTy} (M : Memref sig .tc sp sh e) :
    (anyOwn c M : sProp 𝕄) = iprop(∃ f, M.view.loc (c : Thread nD τ) ↦[M.view.set]{fullShare} f) := by
  have h₁ : (anyOwn c M : sProp 𝕄) ⊢ iprop(∃ f, M.view.loc (c : Thread nD τ) ↦[M.view.set]{fullShare} f) := by
    unfold anyOwn owns; iintro ⟨%v, %f, -, H⟩; iexists f; iexact H
  have h₂ : iprop(∃ f, M.view.loc (c : Thread nD τ) ↦[M.view.set]{fullShare} f) ⊢ (anyOwn c M : sProp 𝕄) := by
    unfold anyOwn owns; iintro ⟨%f, H⟩; iexists (M.view.read (Elt F) f); iexists f; isplitr
    · ipureintro; rfl
    · iexact H
  exact BI.equiv_iff.mp ⟨h₁, h₂⟩

/-- A block held with given contents is one held with some. -/
theorem any_own {sp : Space} {sh : Shape} {e : EltTy} (M : Memref sig .tc sp sh e) (v : sh.Idx → Elt F e) :
    (own c M v : sProp 𝕄) ⊢ anyOwn c M := by
  unfold anyOwn; iintro H; iexists v; iexact H

/-- A buffer falls into disjoint parts, -/
theorem cut {ℓ : Loc nD τ sig} (n : ℕ) (K : ℕ → Finset (Idx ℓ)) (hd : ∀ t < n, ∀ t' < n, t ≠ t' → Disjoint (K t) (K t'))
    (hc : ∀ i, ∃ t < n, i ∈ K t) : (iprop(∃ f, ℓ ↦{fullShare} f) : sProp 𝕄) ⊢ pool 0 n (fun t => iprop(∃ f, ℓ ↦[K t]{fullShare} f)) := by
  have hu : (Finset.Ico 0 n).biUnion K = Finset.univ :=
    Finset.eq_univ_iff_forall.mpr fun i => by
      obtain ⟨t, ht, hi⟩ := hc i
      exact Finset.mem_biUnion.mpr ⟨t, Finset.mem_Ico.mpr ⟨Nat.zero_le t, ht⟩, hi⟩
  iintro ⟨%f, H⟩
  have e : (ℓ ↦{fullShare} f : sProp 𝕄) ⊢ bigSep (Finset.Ico 0 n) fun t => iprop(∃ f, ℓ ↦[K t]{fullShare} f) := by
    rw [← hu, pointsTo_biUnion (q := fullShare) (f := f) (Finset.Ico 0 n) K fun t ht t' ht' =>
      hd t (Finset.mem_Ico.mp ht).2 t' (Finset.mem_Ico.mp ht').2]
    have e (t : ℕ) : (ℓ ↦[K t]{fullShare} f : sProp 𝕄) ⊢ iprop(∃ f, ℓ ↦[K t]{fullShare} f) := by iintro H; iexists f; iexact H
    exact bigSep_mono fun t _ => e t
  unfold pool
  iapply e; iexact H

/-- and is put together from them. -/
theorem paste {ℓ : Loc nD τ sig} [Nonempty (Buf (Elt F) ℓ)] (n : ℕ) (K : ℕ → Finset (Idx ℓ)) (hd : ∀ t < n, ∀ t' < n, t ≠ t' → Disjoint (K t) (K t'))
    (hc : ∀ i, ∃ t < n, i ∈ K t) : pool 0 n (fun t => iprop(∃ f, ℓ ↦[K t]{fullShare} f)) ⊢ (iprop(∃ f, ℓ ↦{fullShare} f) : sProp 𝕄) := by
  have hu : (Finset.Ico 0 n).biUnion K = Finset.univ :=
    Finset.eq_univ_iff_forall.mpr fun i => by
      obtain ⟨t, ht, hi⟩ := hc i
      exact Finset.mem_biUnion.mpr ⟨t, Finset.mem_Ico.mpr ⟨Nat.zero_le t, ht⟩, hi⟩
  have key : ∀ k ≤ n, bigSep (Finset.Ico 0 k) (fun t => iprop(∃ f, ℓ ↦[K t]{fullShare} f))
      ⊢ (iprop(∃ f, ℓ ↦[(Finset.Ico 0 k).biUnion K]{fullShare} f) : sProp 𝕄) := by
    intro k
    induction k with
    | zero =>
      intro _
      rw [Finset.Ico_self, Finset.biUnion_empty]
      iintro -
      iexists (Classical.arbitrary _)
      rw [pointsTo_empty]; iempintro
    | succ k ih =>
      intro hk
      have hdk : Disjoint (K k) ((Finset.Ico 0 k).biUnion K) :=
        (Finset.disjoint_biUnion_right _ _ _).mpr fun t ht => by
          have := (Finset.mem_Ico.mp ht).2
          exact hd k (by omega) t (by omega) (by omega)
      have hs : (Finset.Ico 0 (k + 1)).biUnion K = K k ∪ (Finset.Ico 0 k).biUnion K := by
        rw [show Finset.Ico 0 (k + 1) = insert k (Finset.Ico 0 k) from Finset.insert_Ico_right_eq_Ico_add_one (Nat.zero_le k) |>.symm, Finset.biUnion_insert]
      rw [hs]
      have e : bigSep (Finset.Ico 0 (k + 1)) (fun t => iprop(∃ f, ℓ ↦[K t]{fullShare} f))
          ⊢ (iprop((∃ f, ℓ ↦[K k]{fullShare} f) ∗ (∃ f, ℓ ↦[(Finset.Ico 0 k).biUnion K]{fullShare} f)) : sProp 𝕄) :=
        (Entails.of_eq (bigSep_Ico_succ_top (Nat.zero_le k) _)).trans (Laws.sep_mono .rfl (ih (by omega)))
      iintro H
      ihave H := e $$ H
      icases H with ⟨⟨%f, H⟩, ⟨%g, G⟩⟩
      iexists _
      iapply (pointsTo_join hdk)
      isplitl [H] <;> iassumption
  have := key n le_rfl
  rw [hu] at this
  exact this

/-! ## The four cuts -/

/-- The elements of a slot of the communication buffer, of a slot of the row chunks' buffer, of a row chunk, of a tile
    of the result. -/
abbrev commK (g k : ℕ) : Finset S4x2x1024x1024.Idx := (commM g k).view.set
abbrev xbK (k : ℕ) : Finset S2x1024x1024.Idx := (xbM k).view.set
abbrev xK (c : Dev nD) (k : ℕ) : Finset S8192x1024.Idx := (xM c k).view.set
abbrev outK (k : ℕ) : Finset S1024x4096.Idx := (outM k).view.set

/-- The elements of slot `k` of tile `g` of the communication buffer, -/
theorem comm_set (g k : ℕ) (i : S4x2x1024x1024.Idx) :
    (i ∈ commK g k) ↔ ((i 0).val = g % 4 ∧ (i 1).val = k % 2) := by
  have e : commK g k = (commR g k).set :=
    (View.set_reshape _ _).trans (View.set_slice_whole _ _)
  have h2 : (i 2).val < 1024 := (i 2).isLt
  have h3 : (i 3).val < 1024 := (i 3).isLt
  rw [e, Rect.mem_set_unit]
  constructor
  · intro h
    have h0 := h 0
    have h1 := h 1
    simp [S1x1x1024x1024] at h0 h1
    omega
  · rintro ⟨h0, h1⟩ a
    fin_cases a <;> simp [S1x1x1024x1024] <;> omega
/-- of a slot of the row chunks' buffer, -/
theorem xb_set (k : ℕ) (i : S2x1024x1024.Idx) : (i ∈ xbK k) ↔ ((i 0).val = k % 2) := by
  have e : xbK k = (xbR k).set :=
    (View.set_reshape _ _).trans (View.set_slice_whole _ _)
  have h1 : (i 1).val < 1024 := (i 1).isLt
  have h2 : (i 2).val < 1024 := (i 2).isLt
  rw [e, Rect.mem_set_unit]
  constructor
  · intro h
    have h0 := h 0
    simp [S1x1024x1024] at h0
    omega
  · rintro h0 a
    fin_cases a <;> simp [S1x1024x1024] <;> omega
/-- of a row chunk, -/
theorem x_set (c : Dev nD) (k : ℕ) (i : S8192x1024.Idx) :
    (i ∈ xK c k) ↔ ((i 0).val / 1024 = (c.val + 7 - k) % 8) := by
  have e : xK c k = (xR c k).set := View.set_slice_whole _ _
  have h0 : (i 0).val < 8192 := (i 0).isLt
  have h1 : (i 1).val < 1024 := (i 1).isLt
  rw [e, Rect.mem_set_unit]
  constructor
  · intro h
    have h0 := h 0
    simp [S1024x1024] at h0
    omega
  · rintro h0 a
    fin_cases a <;> simp [S1024x1024] <;> omega
/-- and of a tile of the result. -/
theorem out_set (k : ℕ) (i : S1024x4096.Idx) : (i ∈ outK k) ↔ ((i 1).val / 1024 = k % 4) := by
  have e : outK k = (colR k).set := View.set_slice_whole _ _
  have h0 : (i 0).val < 1024 := (i 0).isLt
  have h1 : (i 1).val < 4096 := (i 1).isLt
  rw [e, Rect.mem_set_unit]
  constructor
  · intro h
    have h1 := h 1
    simp [S1024x1024] at h1
    omega
  · rintro h0 a
    fin_cases a <;> simp [S1024x1024] <;> omega

/-- A block of a whole buffer, held with some contents, as elements of that buffer. -/
theorem comm_any (c : Dev nD) (g k : ℕ) :
    (anyOwn c (commM g k) : sProp 𝕄) = iprop(∃ f, ((c : Thread nD τ).loc cc0_scratch0) ↦[commK g k]{fullShare} f) :=
  anyOwn_eq (commM g k)
theorem xb_any (c : Dev nD) (k : ℕ) :
    (anyOwn c (xbM k) : sProp 𝕄) = iprop(∃ f, ((c : Thread nD τ).loc cc0_scratch1) ↦[xbK k]{fullShare} f) :=
  anyOwn_eq (xbM k)
theorem out_any (c : Dev nD) (k : ℕ) :
    (anyOwn c (outM k) : sProp 𝕄) = iprop(∃ f, ((c : Thread nD τ).loc main_v1) ↦[outK k]{fullShare} f) :=
  anyOwn_eq (outM k)

theorem comm_disj : ∀ t < 8, ∀ t' < 8, t ≠ t' →
    Disjoint (commK t (t / 4)) (commK t' (t' / 4)) := by
  intro t ht t' ht' h
  refine Finset.disjoint_left.mpr fun i hi hi' => ?_
  rw [comm_set] at hi hi'
  omega
theorem comm_cov (i : S4x2x1024x1024.Idx) : ∃ t < 8, i ∈ commK t (t / 4) := by
  have h0 : (i 0).val < 4 := (i 0).isLt
  have h1 : (i 1).val < 2 := (i 1).isLt
  refine ⟨4 * (i 1).val + (i 0).val, by omega, (comm_set _ _ i).mpr ?_⟩
  omega
theorem xb_disj : ∀ t < 2, ∀ t' < 2, t ≠ t' → Disjoint (xbK t) (xbK t') := by
  intro t ht t' ht' h
  refine Finset.disjoint_left.mpr fun i hi hi' => ?_
  rw [xb_set] at hi hi'
  omega
theorem xb_cov (i : S2x1024x1024.Idx) : ∃ t < 2, i ∈ xbK t := by
  have h0 : (i 0).val < 2 := (i 0).isLt
  exact ⟨(i 0).val, h0, (xb_set _ i).mpr (by omega)⟩
theorem out_disj : ∀ t < 4, ∀ t' < 4, t ≠ t' → Disjoint (outK t) (outK t') := by
  intro t ht t' ht' h
  refine Finset.disjoint_left.mpr fun i hi hi' => ?_
  rw [out_set] at hi hi'
  omega
theorem out_cov (i : S1024x4096.Idx) : ∃ t < 4, i ∈ outK t := by
  have h1 : (i 1).val < 4096 := (i 1).isLt
  exact ⟨(i 1).val / 1024, by omega, (out_set _ i).mpr (by omega)⟩
theorem x_disj : ∀ t < 8, ∀ t' < 8, t ≠ t' → Disjoint (xK c t) (xK c t') := by
  intro t ht t' ht' h
  have hc : c.val < 8 := c.isLt
  refine Finset.disjoint_left.mpr fun i hi hi' => ?_
  rw [x_set] at hi hi'
  omega
theorem x_cov (i : S8192x1024.Idx) : ∃ t < 8, i ∈ xK c t := by
  have hc : c.val < 8 := c.isLt
  have h0 : (i 0).val < 8192 := (i 0).isLt
  exact ⟨(c.val + 15 - (i 0).val / 1024) % 8, by omega, (x_set _ _ i).mpr (by omega)⟩

/-- The communication buffer is its eight slots, -/
theorem cut_comm : (iprop(∃ f, ((c : Thread nD τ).loc cc0_scratch0) ↦{fullShare} f) : sProp 𝕄) ⊢ pool 0 8 (fun g => anyOwn c (commM g (g / 4))) := by
  rw [show (fun g => (anyOwn c (commM g (g / 4)) : sProp 𝕄)) = _ from funext fun g => comm_any c g (g / 4)]
  exact cut (ℓ := (c : Thread nD τ).loc cc0_scratch0) 8 _ comm_disj comm_cov
theorem paste_comm : pool 0 8 (fun g => anyOwn c (commM g (g / 4))) ⊢ (iprop(∃ f, ((c : Thread nD τ).loc cc0_scratch0) ↦{fullShare} f) : sProp 𝕄) := by
  rw [show (fun g => (anyOwn c (commM g (g / 4)) : sProp 𝕄)) = _ from funext fun g => comm_any c g (g / 4)]
  exact paste (ℓ := (c : Thread nD τ).loc cc0_scratch0) 8 _ comm_disj comm_cov
/-- the row chunks' buffer its two, -/
theorem cut_xb : (iprop(∃ f, ((c : Thread nD τ).loc cc0_scratch1) ↦{fullShare} f) : sProp 𝕄) ⊢ pool 0 2 (fun i => anyOwn c (xbM i)) := by
  rw [show (fun i => (anyOwn c (xbM i) : sProp 𝕄)) = _ from funext fun i => xb_any c i]
  exact cut (ℓ := (c : Thread nD τ).loc cc0_scratch1) 2 _ xb_disj xb_cov
theorem paste_xb : pool 0 2 (fun i => anyOwn c (xbM i)) ⊢ (iprop(∃ f, ((c : Thread nD τ).loc cc0_scratch1) ↦{fullShare} f) : sProp 𝕄) := by
  rw [show (fun i => (anyOwn c (xbM i) : sProp 𝕄)) = _ from funext fun i => xb_any c i]
  exact paste (ℓ := (c : Thread nD τ).loc cc0_scratch1) 2 _ xb_disj xb_cov
/-- the result its four tiles, -/
theorem cut_out : (iprop(∃ f, ((c : Thread nD τ).loc main_v1) ↦{fullShare} f) : sProp 𝕄) ⊢ pool 0 4 (fun t => anyOwn c (outM t)) := by
  rw [show (fun i => (anyOwn c (outM i) : sProp 𝕄)) = _ from funext fun i => out_any c i]
  exact cut (ℓ := (c : Thread nD τ).loc main_v1) 4 _ out_disj out_cov

/-- and the device's `x` its eight row chunks, with their contents. -/
theorem x_chunks : (((c : Thread nD τ).loc main_arg0) ↦{fullShare} m ((c : Thread nD τ).loc main_arg0) : sProp 𝕄) = pool 0 8 (fun i => own c (xM c i) (Xc m c i)) := by
  have e (i : ℕ) : (own c (xM c i) (Xc m c i) : sProp 𝕄)
      = ((c : Thread nD τ).loc main_arg0) ↦[xK c i]{fullShare} m ((c : Thread nD τ).loc main_arg0) :=
    owns_slice_read (c : Thread nD τ) (Memref.whole main_arg0) fullShare (xR c i) (fun _ => rfl) (m ((c : Thread nD τ).loc main_arg0))
  have hu : (Finset.Ico 0 8).biUnion (fun i => xK c i) = Finset.univ :=
    Finset.eq_univ_iff_forall.mpr fun i => by
      obtain ⟨t, ht, hi⟩ := x_cov (c := c) i
      exact Finset.mem_biUnion.mpr ⟨t, Finset.mem_Ico.mpr ⟨Nat.zero_le t, ht⟩, hi⟩
  unfold pool
  rw [bigSep_congr fun i _ => e i, ← hu]
  exact pointsTo_biUnion _ _ fun t ht t' ht' => x_disj t (Finset.mem_Ico.mp ht).2 t' (Finset.mem_Ico.mp ht').2

/-! ## The result -/

set_option backward.proofsInPublic true in
/-- The place of an element in its tile. -/
def inTile (i : S1024x4096.Idx) : S1024x1024.Idx := fun a => ⟨(i a).val % 1024, by fin_cases a <;> exact Nat.mod_lt _ (by decide)⟩

/-- What the result's buffer holds at the end: every column tile's. -/
def OUT (m : (ℓ : Loc nD τ sig) → Buf (Elt F) ℓ) (c : Dev nD) : Buf (Elt F) ((c : Thread nD τ).loc main_v1) :=
  fun i : S1024x4096.Idx => fin m c ((i 1).val / 1024) (inTile i)

theorem fin_read {t : ℕ} (ht : t < 4) : fin m c t = (outM t).view.read (Elt F) (OUT m c) := by
  funext j
  have h0 : (j 0).val < 1024 := (j 0).isLt
  have h1 : (j 1).val < 1024 := (j 1).isLt
  show fin m c t j = OUT m c ((colR t).emb j)
  have e0 : (((colR t).emb j) 0).val = (![0, 1024 * (t % 4)] : Fin 2 → ℕ) 0 + (j 0).val := ValueKit.rect_emb_unit_val (s := S1024x4096) ![0, 1024 * (t % 4)] S1024x1024.size (inb_col t) j 0
  rw [show (![0, 1024 * (t % 4)] : Fin 2 → ℕ) 0 = 0 from rfl] at e0
  have e1 : (((colR t).emb j) 1).val = 1024 * (t % 4) + (j 1).val := ValueKit.rect_emb_unit_val (s := S1024x4096) ![0, 1024 * (t % 4)] S1024x1024.size (inb_col t) j 1
  have ej : inTile ((colR t).emb j) = j := funext fun a => Fin.ext (by
    fin_cases a
    · show (((colR t).emb j) 0).val % 1024 = (j 0).val; omega
    · show (((colR t).emb j) 1).val % 1024 = (j 1).val; omega)
  unfold OUT
  rw [ej, show (((colR t).emb j) 1).val / 1024 = t by omega]

/-- The finished tiles are the finished result. -/
theorem paste_out : pool 0 4 (fun t => own c (outM t) (fin m c t)) ⊢ (((c : Thread nD τ).loc main_v1) ↦{fullShare} OUT m c : sProp 𝕄) := by
  have e (i : ℕ) (hi : i < 4) : (own c (outM i) (fin m c i) : sProp 𝕄)
      = ((c : Thread nD τ).loc main_v1) ↦[outK i]{fullShare} OUT m c := by
    rw [fin_read hi]
    exact owns_slice_read (c : Thread nD τ) (Memref.whole main_v1) fullShare (colR i) (fun _ => rfl) (OUT m c)
  have hu : (Finset.Ico 0 4).biUnion (fun i => outK i) = Finset.univ :=
    Finset.eq_univ_iff_forall.mpr fun i => by
      obtain ⟨t, ht, hi⟩ := out_cov i
      exact Finset.mem_biUnion.mpr ⟨t, Finset.mem_Ico.mpr ⟨Nat.zero_le t, ht⟩, hi⟩
  unfold pool
  rw [bigSep_congr fun i hi => e i (Finset.mem_Ico.mp hi).2, ← hu]
  exact Entails.of_eq (pointsTo_biUnion _ _ fun t ht t' ht' => out_disj t (Finset.mem_Ico.mp ht).2 t' (Finset.mem_Ico.mp ht').2).symm

end Cert.RingProof
-- ==== Proof.Row.lean ====
/-
  The semaphores of one device in one row, and runs of like assertions cut, shifted and paired.
-/
module

public import proofs.«01_k».proof.Proof.Memory

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable {c : Dev nD}

/-! ## Runs -/

theorem pool_sep {a b : ℕ} (P Q : ℕ → sProp 𝕄) : pool a b (fun i => iprop(P i ∗ Q i)) = iprop(pool a b P ∗ pool a b Q) := by
  unfold pool; exact bigSep_sep' _ P Q
theorem pool_mono {a b : ℕ} {P Q : ℕ → sProp 𝕄} (h : ∀ i, a ≤ i → i < b → P i ⊢ Q i) : pool a b P ⊢ pool a b Q := by
  unfold pool; exact bigSep_mono fun i hi => h i (Finset.mem_Ico.mp hi).1 (Finset.mem_Ico.mp hi).2
theorem pool_congr {a b : ℕ} {P Q : ℕ → sProp 𝕄} (h : ∀ i, a ≤ i → i < b → P i = Q i) : pool a b P = pool a b Q := by
  unfold pool; exact bigSep_congr fun i hi => h i (Finset.mem_Ico.mp hi).1 (Finset.mem_Ico.mp hi).2
/-- A run cut in two, -/
theorem pool_cut {a b d : ℕ} (h₁ : a ≤ b) (h₂ : b ≤ d) (P : ℕ → sProp 𝕄) : pool a d P = iprop(pool a b P ∗ pool b d P) := by
  unfold pool
  rw [← Finset.Ico_union_Ico_eq_Ico h₁ h₂]
  exact bigSep_union (Finset.Ico_disjoint_Ico_consecutive a b d)
/-- and moved. -/
theorem pool_shift (a b k : ℕ) (P : ℕ → sProp 𝕄) : pool (k + a) (k + b) P = pool a b (fun i => P (k + i)) := by
  unfold pool
  rw [← Finset.image_add_left_Ico a b k]
  exact bigSep_image_of_injOn (fun x _ y _ h => Nat.add_left_cancel h) P

/-! ## The row of semaphores -/

set_option backward.proofsInPublic true in
/-- The places in the row of step `g`'s send and receive, of `x`'s copy `i`, of the result's copy `t`. -/
def kS (g : ℕ) : Fin 70 := ⟨(sendS g).val, Nat.lt_succ_of_lt (sendS g).isLt⟩
set_option backward.proofsInPublic true in
def kR (g : ℕ) : Fin 70 := ⟨(recvS g).val, Nat.lt_succ_of_lt (recvS g).isLt⟩
set_option backward.proofsInPublic true in
def kX (i : ℕ) : Fin 70 := ⟨(xS i).val, Nat.lt_succ_of_lt (xS i).isLt⟩
set_option backward.proofsInPublic true in
def kO (t : ℕ) : Fin 70 := ⟨(outS t).val, Nat.lt_succ_of_lt (outS t).isLt⟩

theorem kS_inj : Set.InjOn kS (Finset.Ico 0 28 : Finset ℕ) := fun a ha b hb h => by
  have h' : (sendS a).val = (sendS b).val := show (kS a).val = (kS b).val from congrArg Fin.val h
  rw [Finset.mem_coe, Finset.mem_Ico] at ha hb
  rw [sendS_val ha.2, sendS_val hb.2] at h'
  omega
theorem kR_inj : Set.InjOn kR (Finset.Ico 0 28 : Finset ℕ) := fun a ha b hb h => by
  have h' : (recvS a).val = (recvS b).val := show (kR a).val = (kR b).val from congrArg Fin.val h
  rw [Finset.mem_coe, Finset.mem_Ico] at ha hb
  rw [recvS_val ha.2, recvS_val hb.2] at h'
  omega
theorem kX_inj : Set.InjOn kX (Finset.Ico 0 8 : Finset ℕ) := fun a ha b hb h => by
  have h' : (xS a).val = (xS b).val := show (kX a).val = (kX b).val from congrArg Fin.val h
  rw [Finset.mem_coe, Finset.mem_Ico] at ha hb
  rw [xS_val ha.2, xS_val hb.2] at h'
  omega
theorem kO_inj : Set.InjOn kO (Finset.Ico 0 4 : Finset ℕ) := fun a ha b hb h => by
  have h' : (outS a).val = (outS b).val := show (kO a).val = (kO b).val from congrArg Fin.val h
  rw [Finset.mem_coe, Finset.mem_Ico] at ha hb
  rw [outS_val ha.2, outS_val hb.2] at h'
  omega

set_option maxRecDepth 20000 in
theorem row_eq : (Finset.univ : Finset (Fin 70)) = insert 0 ((Finset.Ico 0 28).image kS ∪ ((Finset.Ico 0 28).image kR
    ∪ ((Finset.Ico 0 8).image kX ∪ ((Finset.Ico 0 4).image kO ∪ {69})))) := by decide

set_option maxRecDepth 20000 in
/-- One assertion for every semaphore of a device, told kind by kind. -/
theorem row (c : Dev nD) (P : GSem nD τ sig → sProp 𝕄) :
    (bigSep Finset.univ fun k : Fin 70 => P (kcell (c, k)))
      = iprop(P (barCell c) ∗ pool 0 28 (fun g => P (sendCell c g)) ∗ pool 0 28 (fun g => P (recvCell c g)) ∗ pool 0 8 (fun i => P (xCell c i))
          ∗ pool 0 4 (fun t => P (outCell c t)) ∗ P (creditCell c)) := by
  have eB : P (kcell (c, 0)) = P (barCell c) := by unfold kcell; rw [csem_bar]
  have eC : P (kcell (c, 69)) = P (creditCell c) := by unfold kcell; rw [csem_credit]
  have eS : bigSep ((Finset.Ico 0 28).image kS) (fun k => P (kcell (c, k))) = pool 0 28 (fun g => P (sendCell c g)) := by
    rw [bigSep_image_of_injOn kS_inj]
    exact pool_congr fun g _ h => by unfold kcell kS; rw [csem_dma _ (sendS_pos h)]
  have eR : bigSep ((Finset.Ico 0 28).image kR) (fun k => P (kcell (c, k))) = pool 0 28 (fun g => P (recvCell c g)) := by
    rw [bigSep_image_of_injOn kR_inj]
    exact pool_congr fun g _ h => by unfold kcell kR; rw [csem_dma _ (recvS_pos h)]
  have eX : bigSep ((Finset.Ico 0 8).image kX) (fun k => P (kcell (c, k))) = pool 0 8 (fun g => P (xCell c g)) := by
    rw [bigSep_image_of_injOn kX_inj]
    exact pool_congr fun g _ h => by unfold kcell kX; rw [csem_dma _ (xS_pos h)]
  have eO : bigSep ((Finset.Ico 0 4).image kO) (fun k => P (kcell (c, k))) = pool 0 4 (fun g => P (outCell c g)) := by
    rw [bigSep_image_of_injOn kO_inj]
    exact pool_congr fun g _ h => by unfold kcell kO; rw [csem_dma _ (outS_pos h)]
  rw [row_eq, bigSep_insert (by decide), bigSep_union (by decide), bigSep_union (by decide), bigSep_union (by decide), bigSep_union (by decide),
    bigSep_singleton, eB, eC, eS, eR, eX, eO]
  rfl

end Cert.RingProof
-- ==== Proof.Deal.lean ====
/-
  What the launch mints, and how it is dealt to the devices.

  Every cell gets its round state, its owner's position and its duties' tokens; every released slot its invariant, its
  reader's count and its writer's token. A device pays duties at its neighbours' cells, so those tokens go once
  around the ring.
-/
module

public import proofs.«01_k».proof.Proof.Row

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (m : (ℓ : Loc nD τ sig) → Buf (Elt F) ℓ) (c : Dev nD)

/-! ## The cells and the tokens -/

theorem csem_injective : Function.Injective csem := by
  intro a b h
  have ha := a.isLt
  have hb := b.isLt
  unfold csem at h
  split_ifs at h <;> first
    | exact Fin.ext (by omega)
    | exact absurd (SemLoc.reg.inj h).symm credit_ne_bar
    | exact absurd (SemLoc.reg.inj h) credit_ne_bar
    | exact Fin.ext (Fin.mk.inj (SemLoc.dma.inj h))
    | cases h

theorem kcell_injective : Function.Injective (kcell : Dev nD × Fin 70 → GSem nD τ sig) := by
  rintro ⟨c, k⟩ ⟨c', k'⟩ h
  have h1 : c = c' := congrArg (fun g : GSem nD τ sig => g.1.1) h
  have h2 : k = k' := csem_injective (congrArg Prod.snd h)
  rw [h1, h2]

def ringCells : Finset (GSem nD τ sig) := Finset.univ.map ⟨kcell, kcell_injective⟩

/-- Every cell's duties `0` to `23`: more than most cells have, the others are left lying. -/
def tokOf (x : (Dev nD × Fin 70) × Fin 24) : GSem nD τ sig × ℕ × ℕ := (kcell x.1, 0, x.2.val)
theorem tokOf_injective : Function.Injective tokOf := by
  rintro ⟨p, d⟩ ⟨p', d'⟩ h
  have h1 : p = p' := kcell_injective (congrArg (fun y : GSem nD τ sig × ℕ × ℕ => y.1) h)
  have h2 : d = d' := Fin.ext (congrArg (fun y : GSem nD τ sig × ℕ × ℕ => y.2.2) h)
  rw [h1, h2]
def ringToks : Finset (GSem nD τ sig × ℕ × ℕ) := Finset.univ.map ⟨tokOf, tokOf_injective⟩

/-- The slots that are handed back. -/
abbrev keys : Finset Key := (Finset.univ : Finset (Dev nD)) ×ˢ Finset.range 24

def u₀ : UU :=
  (initOf (Pipeline.cells cfgs cellOf_inj) (Pipeline.launchToks cfgs cellOf_inj), (initOf ringCells ringToks, Release.initSlots keys 1))

/-! ## What is minted -/

/-- The duties' tokens of one cell. -/
def cellToks (g : GSem nD τ sig) : sProp 𝕄 := bigSep Finset.univ fun d : Fin 24 => dutyTok (ER : Emb UB 𝕄) g 0 d.val

theorem cellToks_one (g : GSem nD τ sig) (d : Fin 24) : (cellToks g : sProp 𝕄) ⊢ dutyTok (ER : Emb UB 𝕄) g 0 d.val := by
  unfold cellToks; exact bigSep_elim (Φ := fun d : Fin 24 => (dutyTok (ER : Emb UB 𝕄) g 0 d.val : sProp 𝕄)) (Finset.mem_univ d)
theorem cellToks_zero (g : GSem nD τ sig) : (cellToks g : sProp 𝕄) ⊢ dutyTok (ER : Emb UB 𝕄) g 0 0 := cellToks_one g 0
theorem cellToks_two (g : GSem nD τ sig) : (cellToks g : sProp 𝕄) ⊢ iprop(dutyTok (ER : Emb UB 𝕄) g 0 0 ∗ dutyTok (ER : Emb UB 𝕄) g 0 1) := by
  have e : (cellToks g : sProp 𝕄) = iprop(dutyTok (ER : Emb UB 𝕄) g 0 0 ∗ bigSep (Finset.univ.erase (0 : Fin 24)) fun d : Fin 24 => dutyTok (ER : Emb UB 𝕄) g 0 d.val) := by
    unfold cellToks; exact bigSep_univ_at _ 0
  rw [e]
  exact Laws.sep_mono .rfl (bigSep_elim (Φ := fun d : Fin 24 => (dutyTok (ER : Emb UB 𝕄) g 0 d.val : sProp 𝕄)) (Finset.mem_erase.mpr ⟨by decide, Finset.mem_univ (1 : Fin 24)⟩))
theorem cellToks_all (g : GSem nD τ sig) : (cellToks g : sProp 𝕄) = pool 0 24 fun d => dutyTok (ER : Emb UB 𝕄) g 0 d := by
  unfold cellToks pool
  rw [show Finset.Ico 0 24 = Finset.univ.map (Fin.valEmbedding (n := 24)) from by decide, bigSep_map]
  rfl

/-- The tokens of the duties at device `c`'s cells. -/
def toks : sProp 𝕄 :=
  iprop((dutyTok (ER : Emb UB 𝕄) (barCell c) 0 0 ∗ dutyTok (ER : Emb UB 𝕄) (barCell c) 0 1)
    ∗ pool 0 28 (fun g => dutyTok (ER : Emb UB 𝕄) (sendCell c g) 0 0) ∗ pool 0 28 (fun g => dutyTok (ER : Emb UB 𝕄) (recvCell c g) 0 0)
    ∗ pool 0 8 (fun i => dutyTok (ER : Emb UB 𝕄) (xCell c i) 0 0) ∗ pool 0 4 (fun t => dutyTok (ER : Emb UB 𝕄) (outCell c t) 0 0)
    ∗ pool 0 24 (fun k => dutyTok (ER : Emb UB 𝕄) (creditCell c) 0 k))

/-- The tokens of the duties that device `c` pays. -/
def payToks : sProp 𝕄 :=
  iprop((dutyTok (ER : Emb UB 𝕄) (barCell (nxt c)) 0 0 ∗ dutyTok (ER : Emb UB 𝕄) (barCell (prv c)) 0 1)
    ∗ pool 0 28 (fun g => dutyTok (ER : Emb UB 𝕄) (sendCell c g) 0 0) ∗ pool 0 28 (fun g => dutyTok (ER : Emb UB 𝕄) (recvCell (nxt c) g) 0 0)
    ∗ pool 0 8 (fun i => dutyTok (ER : Emb UB 𝕄) (xCell c i) 0 0) ∗ pool 0 4 (fun t => dutyTok (ER : Emb UB 𝕄) (outCell c t) 0 0)
    ∗ pool 0 24 (fun k => dutyTok (ER : Emb UB 𝕄) (creditCell (prv c)) 0 k))

theorem toks_intro : (bigSep Finset.univ fun k : Fin 70 => cellToks (kcell (c, k))) ⊢ (toks c : sProp 𝕄) := by
  rw [row c fun g => (cellToks g : sProp 𝕄), cellToks_all (creditCell c)]
  unfold toks
  exact Laws.sep_mono (cellToks_two _) (Laws.sep_mono (pool_mono fun g _ _ => cellToks_zero _) (Laws.sep_mono (pool_mono fun g _ _ => cellToks_zero _)
    (Laws.sep_mono (pool_mono fun g _ _ => cellToks_zero _) (Laws.sep_mono (pool_mono fun g _ _ => cellToks_zero _) .rfl))))

/-- The tokens go once around the ring. -/
theorem toks_around : (bigSep Finset.univ fun c : Dev nD => (toks c : sProp 𝕄)) ⊢ bigSep Finset.univ fun c : Dev nD => payToks c := by
  unfold toks payToks
  simp only [bigSep_sep']
  rw [bigSep_univ_equiv ring (fun c : Dev nD => (dutyTok (ER : Emb UB 𝕄) (barCell c) 0 0 : sProp 𝕄)),
    bigSep_univ_equiv ring.symm (fun c : Dev nD => (dutyTok (ER : Emb UB 𝕄) (barCell c) 0 1 : sProp 𝕄)),
    bigSep_univ_equiv ring (fun c : Dev nD => (pool 0 28 (fun g => dutyTok (ER : Emb UB 𝕄) (recvCell c g) 0 0) : sProp 𝕄)),
    bigSep_univ_equiv ring.symm (fun c : Dev nD => (pool 0 24 (fun k => dutyTok (ER : Emb UB 𝕄) (creditCell c) 0 k) : sProp 𝕄))]
  exact .rfl

/-! ## Sums over pairs -/

theorem bigSep_pairs {α β : Type} [DecidableEq α] [DecidableEq β] (S : Finset α) (T : Finset β) (Φ : α × β → sProp 𝕄) :
    bigSep (S ×ˢ T) Φ = bigSep S fun a => bigSep T fun b => Φ (a, b) := by
  induction S using Finset.induction_on with
  | empty => rw [Finset.empty_product, bigSep_empty, bigSep_empty]
  | insert a S ha ih =>
    have e : (insert a S) ×ˢ T = T.image (fun b => (a, b)) ∪ S ×ˢ T := by
      ext ⟨x, y⟩
      simp only [Finset.mem_product, Finset.mem_insert, Finset.mem_union, Finset.mem_image, Prod.mk.injEq]
      constructor
      · rintro ⟨rfl | h, hy⟩
        · exact .inl ⟨y, hy, rfl, rfl⟩
        · exact .inr ⟨h, hy⟩
      · rintro (⟨b, hb, rfl, rfl⟩ | ⟨h, hy⟩)
        · exact ⟨.inl rfl, hb⟩
        · exact ⟨.inr h, hy⟩
    have hd : Disjoint (T.image (fun b => (a, b))) (S ×ˢ T) := Finset.disjoint_left.mpr fun x hx hx' => by
      obtain ⟨b, -, rfl⟩ := Finset.mem_image.mp hx
      exact ha (Finset.mem_product.mp hx').1
    rw [e, bigSep_union hd, bigSep_insert ha, ih, bigSep_image_of_injOn (fun x _ y _ h => (Prod.mk.inj h).2)]

/-! ## The deal -/

/-- The invariants of the slots that are handed back. -/
def Slots : sProp 𝕄 := iprop(∃ ι : Key → ℕ, bigSep keys fun k => Release.slotInv (ES : Emb UK 𝕄) (ι k) k (slotOf k))
instance Slots_persistent : BI.Persistent (Slots : sProp 𝕄) := by unfold Slots; infer_instance

/-- The readers' counts of a device's own slots, and the writers' tokens for them. -/
def readers : sProp 𝕄 := pool 0 24 fun k => Release.readerAt (ES : Emb UK 𝕄) (c, k) 0
def writers : sProp 𝕄 := pool 0 24 fun k => Release.writeTok (ES : Emb UK 𝕄) (c, k) 1

/-- What the launch mints for device `c`. -/
def G : sProp 𝕄 :=
  iprop((bigSep Finset.univ fun k : Fin 70 => roundState ER (Rd m) (kcell (c, k)) 0) ∗ (bigSep Finset.univ fun k : Fin 70 => reached (ER : Emb UB 𝕄) (kcell (c, k)) 0)
    ∗ (bigSep Finset.univ fun k : Fin 70 => atPos (ER : Emb UB 𝕄) (kcell (c, k)) 0 ∅ 0) ∗ toks c ∗ Slots ∗ readers c ∗ writers c)

theorem mint_cells : BI.own ((ER : Emb UB 𝕄) (initOf ringCells ringToks))
    ⊢ |==> iprop((bigSep Finset.univ fun c : Dev nD => bigSep Finset.univ fun k : Fin 70 => roundState ER (Rd m) (kcell (c, k)) 0)
      ∗ (bigSep Finset.univ fun c : Dev nD => bigSep Finset.univ fun k : Fin 70 => reached (ER : Emb UB 𝕄) (kcell (c, k)) 0)
      ∗ (bigSep Finset.univ fun c : Dev nD => bigSep Finset.univ fun k : Fin 70 => atPos (ER : Emb UB 𝕄) (kcell (c, k)) 0 ∅ 0)
      ∗ (bigSep Finset.univ fun c : Dev nD => toks c)) := by
  have hX (Φ : GSem nD τ sig → sProp 𝕄) : bigSep ringCells Φ = bigSep Finset.univ fun c : Dev nD => bigSep Finset.univ fun k : Fin 70 => Φ (kcell (c, k)) := by
    unfold ringCells; rw [bigSep_map, bigSep_univ_prod]; rfl
  have hT : bigSep ringToks (fun x => (dutyTok (ER : Emb UB 𝕄) x.1 x.2.1 x.2.2 : sProp 𝕄)) ⊢ bigSep Finset.univ fun c : Dev nD => toks c := by
    unfold ringToks; rw [bigSep_map, bigSep_univ_prod, bigSep_univ_prod]
    exact bigSep_mono fun c _ => toks_intro c
  refine (Rounds.fund ER (Rd m) ringCells ringToks).trans (BI.bupd_mono ?_)
  rw [hX, hX, hX]
  exact Laws.sep_mono .rfl (Laws.sep_mono .rfl (Laws.sep_mono .rfl hT))

theorem mint_slots : BI.own ((ES : Emb UK 𝕄) (Release.initSlots keys 1))
    ⊢ |={Set.univ}=> iprop((Slots : sProp 𝕄) ∗ (bigSep Finset.univ fun c : Dev nD => readers c) ∗ (bigSep Finset.univ fun c : Dev nD => writers c)) := by
  have hR : bigSep keys (fun k => (Release.readerAt (ES : Emb UK 𝕄) k 0 : sProp 𝕄)) = bigSep Finset.univ fun c : Dev nD => readers c := by
    unfold readers pool keys; rw [bigSep_pairs, Finset.range_eq_Ico]
  have hW : bigSep (keys ×ˢ Finset.range 1) (fun x => (Release.writeTok (ES : Emb UK 𝕄) x.1 (x.2 + 1) : sProp 𝕄)) = bigSep Finset.univ fun c : Dev nD => writers c := by
    unfold writers pool keys
    rw [bigSep_pairs, bigSep_pairs, Finset.range_eq_Ico]
    refine bigSep_congr fun c _ => bigSep_congr fun k _ => ?_
    rw [Finset.range_one, bigSep_singleton]
  iintro H
  imod (Release.slots_init (ES : Emb UK 𝕄) keys 1 slotOf) $$ H with ⟨%ι, -, HI, Hr, Hw⟩
  imodintro
  isplitl [HI]; · (unfold Slots; iexists ι; iexact HI)
  isplitl [Hr]
  · iapply (Entails.of_eq hR); iexact Hr
  · iapply (Entails.of_eq hW); iexact Hw

theorem mint : (ownU u₀ : sProp 𝕄)
    ⊢ |={Set.univ}=> iprop(BI.own ((EP : Emb (UR sig nD τ) 𝕄) (initOf (Pipeline.cells cfgs cellOf_inj) (Pipeline.launchToks cfgs cellOf_inj))) ∗ bigSep Finset.univ (G m)) := by
  unfold u₀
  iintro Hu
  ihave H := (ownU_pair _ _) $$ Hu
  icases H with ⟨HP, HX⟩
  have e := own_pair_emb (embR : Emb (UB × UK) 𝕄) (initOf ringCells ringToks) (Release.initSlots keys 1)
  ihave HX := e $$ HX
  icases HX with ⟨HB, HK⟩
  have e₁ := mint_cells m
  unfold ER at e₁
  have e₂ := mint_slots (F := F)
  unfold ES at e₂
  imod e₁ $$ HB with ⟨Hst, Hr, Hat, Htok⟩
  imod e₂ $$ HK with ⟨HS, Hrd, Hwr⟩
  imodintro
  isplitl [HP]; · iexact HP
  unfold G
  simp only [bigSep_sep']
  isplitl [Hst]; · iexact Hst
  isplitl [Hr]; · iexact Hr
  isplitl [Hat]; · iexact Hat
  isplitl [Htok]; · iexact Htok
  isplitl [HS]
  · iapply (BI.bigSep_of_persistent Finset.univ (Slots : sProp 𝕄)); iexact HS
  isplitl [Hrd] <;> iassumption

end Cert.RingProof
-- ==== Proof.Steps.lean ====
/-
  What each operation of the kernel does to the state of a device.

  Each theorem is for one kind of operation at the head of a program: from the state before it the program is
  correct if, from the state after it, the rest is.
-/
module

public import proofs.«01_k».proof.Proof.State

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (m : (ℓ : Loc nD τ sig) → Buf (Elt F) ℓ)

abbrev 𝒱₀ : Variants := Variants.none

/-- The correctness of a program of device `c`'s core. -/
abbrev WP (c : Dev nD) {α : Type} (p : Prog (TpuEff nD τ sig (Elt F) Λ₀ (c : Thread nD τ).2) α) (Q : α → sProp 𝕄) : sProp 𝕄 :=
  wp frame (wpE (defs₀ (F := F)) 𝒱₀ (c : Thread nD τ) none) Set.univ p Q

/-! ## Slots at equal places -/

theorem commM_congr {t t' k k' : ℕ} (ht : t % 4 = t' % 4) (hk : k % 2 = k' % 2) : commM t k = commM t' k' := by
  have e : (![t % 4, k % 2, 0, 0] : Fin 4 → ℕ) = ![t' % 4, k' % 2, 0, 0] := by rw [ht, hk]
  unfold commM; congr 2; unfold commR; congr 1
theorem xbM_congr {i i' : ℕ} (h : i % 2 = i' % 2) : xbM i = xbM i' := by
  have e : (![i % 2, 0, 0] : Fin 3 → ℕ) = ![i' % 2, 0, 0] := by rw [h]
  unfold xbM; congr 2; unfold xbR; congr 1

/-! ## Contents behind the unit axes -/

/-- A block as the load of a slot of the communication buffer reads it, -/
def liftC (v : Blk F) : S1x1x1024x1024.Idx → F .f32 := shapeCast S1x1x1024x1024 v shapeCasts_S1024x1024_S1x1x1024x1024
/-- and as the load of a slot of the buffer for `x` reads it. -/
def liftX (v : Blk F) : S1x1024x1024.Idx → F .f32 := shapeCast S1x1024x1024 v (shapeCasts_S1x1024x1024_S1024x1024).symm
/-- A stored vector as a block. -/
def lowC (w : S1x1x1024x1024.Idx → F .f32) : Blk F := shapeCast S1024x1024 w shapeCasts_S1x1x1024x1024_S1024x1024

theorem lowC_liftC (v : Blk F) : lowC (liftC v) = v := by
  funext i; unfold lowC liftC shapeCast; rw [Shape.reshapeEquiv_reshapeEquiv, Shape.reshapeEquiv_self]
theorem liftC_lowC (w : S1x1x1024x1024.Idx → F .f32) : liftC (lowC w) = w := by
  funext i; unfold lowC liftC shapeCast; rw [Shape.reshapeEquiv_reshapeEquiv, Shape.reshapeEquiv_self]
theorem low_liftX (v : Blk F) : shapeCast S1024x1024 (liftX v) shapeCasts_S1x1024x1024_S1024x1024 = v := by
  funext i; unfold liftX shapeCast; rw [Shape.reshapeEquiv_reshapeEquiv, Shape.reshapeEquiv_self]
theorem liftX_low (w : S1x1024x1024.Idx → F .f32) : liftX (shapeCast S1024x1024 w shapeCasts_S1x1024x1024_S1024x1024) = w := by
  funext i; unfold liftX shapeCast; rw [Shape.reshapeEquiv_reshapeEquiv, Shape.reshapeEquiv_self]

/-! ## Loads and stores -/

section Local
variable (c : Dev nD) {α : Type}

/-- A load of the communication buffer reads the slot it covers, -/
theorem load_comm {Q : α → sProp 𝕄} {t k : ℕ} {v : Blk F} {hl} {K : (S1x1x1024x1024.Idx → Elt F .f32) → Prog (TpuEff nD τ sig (Elt F) Λ₀ (c : Thread nD τ).2) α} :
    own c (commM t k) v ⊢ iprop((own c (commM t k) v -∗ WP c (K (liftC v)) Q)
      -∗ WP c (.op (.load (Memref.whole cc0_scratch0) (commR t k).toLoadRect hl) K) Q) := by
  have hset : (commM t k).view.set = ((Memref.whole cc0_scratch0).access (commR t k)).set := View.set_reshape _ _
  unfold own owns
  rw [hset]
  iintro ⟨%f, %hf, Hf⟩ Hk
  have hv : ((Memref.whole cc0_scratch0).access (commR t k)).read (Elt F) f = liftC v := by
    rw [← hf]; exact (liftC_lowC _).symm
  iapply (wp_load_rect 𝒱₀ (c : Thread nD τ) none Set.univ (m := Memref.whole cc0_scratch0) (r := commR t k) (Finset.Subset.refl _)) $$ Hf
  iintro Hf
  rw [hv]
  iapply Hk
  iexists f
  isplitr; · (ipureintro; exact hf)
  iexact Hf

/-- and a store fills it. -/
theorem store_comm {Q : α → sProp 𝕄} {t k : ℕ} {w : S1x1x1024x1024.Idx → F .f32} {hx hm} {K : PUnit → Prog (TpuEff nD τ sig (Elt F) Λ₀ (c : Thread nD τ).2) α} :
    anyOwn c (commM t k) ⊢ iprop((own c (commM t k) (lowC w) -∗ WP c (K ⟨⟩) Q)
      -∗ WP c (.op (.store (Memref.whole cc0_scratch0) (commR t k) w Finset.univ hx hm) K) Q) := by
  have hset : (commM t k).view.set = ((Memref.whole cc0_scratch0).access (commR t k)).set := View.set_reshape _ _
  have hrd : ∀ g, (commM t k).view.read (Elt F) g = lowC (((Memref.whole cc0_scratch0).access (commR t k)).read (Elt F) g) := fun g => rfl
  unfold anyOwn own owns
  rw [hset]
  iintro ⟨%v, %f, %hf, Hf⟩ Hk
  iapply (wp_store 𝒱₀ (c : Thread nD τ) none Set.univ (m := Memref.whole cc0_scratch0) (r := commR t k) (Mk := Finset.univ)
    (S := ((Memref.whole cc0_scratch0).access (commR t k)).set) (by rw [View.setOn_univ])) $$ Hf
  iintro Hf
  iapply Hk
  iexists _
  isplitr
  · ipureintro
    exact (hrd _).trans (congrArg lowC (View.read_write_univ (v := (Memref.whole cc0_scratch0).access (commR t k)) f w))
  · iexact Hf

/-- A load of the buffer for `x` reads the slot it covers. -/
theorem load_xb {Q : α → sProp 𝕄} {i : ℕ} {v : Blk F} {hl} {K : (S1x1024x1024.Idx → Elt F .f32) → Prog (TpuEff nD τ sig (Elt F) Λ₀ (c : Thread nD τ).2) α} :
    own c (xbM i) v ⊢ iprop((own c (xbM i) v -∗ WP c (K (liftX v)) Q)
      -∗ WP c (.op (.load (Memref.whole cc0_scratch1) (xbR i).toLoadRect hl) K) Q) := by
  have hset : (xbM i).view.set = ((Memref.whole cc0_scratch1).access (xbR i)).set := View.set_reshape _ _
  unfold own owns
  rw [hset]
  iintro ⟨%f, %hf, Hf⟩ Hk
  have hv : ((Memref.whole cc0_scratch1).access (xbR i)).read (Elt F) f = liftX v := by
    rw [← hf]; exact (liftX_low _).symm
  iapply (wp_load_rect 𝒱₀ (c : Thread nD τ) none Set.univ (m := Memref.whole cc0_scratch1) (r := xbR i) (Finset.Subset.refl _)) $$ Hf
  iintro Hf
  rw [hv]
  iapply Hk
  iexists f
  isplitr; · (ipureintro; exact hf)
  iexact Hf

/-- A load of `w`'s column tile reads it. -/
theorem load_col {Q : α → sProp 𝕄} {t : ℕ} {hl} {K : (S1024x1024.Idx → Elt F .f32) → Prog (TpuEff nD τ sig (Elt F) Λ₀ (c : Thread nD τ).2) α} :
    WS m c ⊢ iprop((WS m c -∗ WP c (K (wT m c t)) Q)
      -∗ WP c (.op (.load (Memref.whole cc0_stg0_0) (colR t).toLoadRect hl) K) Q) := by
  unfold WS
  iintro Hf Hk
  iapply (wp_load_rect 𝒱₀ (c : Thread nD τ) none Set.univ (m := Memref.whole cc0_stg0_0) (r := colR t) (Finset.subset_univ _)) $$ Hf
  iintro Hf
  iapply Hk
  iexact Hf

/-! ## Copies, sends and waits -/

/-- The wait for a copy's semaphore hands over what the copy made. -/
theorem dma_wait {Q : α → sProp 𝕄} (q : DmaSem sig) (hq : 1 ≤ q.val) {w : TpuEff nD τ sig (Elt F) Λ₀ (c : Thread nD τ).2 PUnit}
    (hw : ∀ K : PUnit → sProp 𝕄, wpE (defs₀ (F := F)) 𝒱₀ (c : Thread nD τ) none Set.univ w K = waitSpec (c : Thread nD τ) Set.univ (.dma q) N K)
    {sn cs : ℕ} (h₁ : sn < 28 → lvS (.dma q) 0 < sn + 2) (h₂ : cs < 24 → lvS (.dma q) 0 < cs + 2)
    {k : PUnit → Prog (TpuEff nD τ sig (Elt F) Λ₀ (c : Thread nD τ).2) α} :
    iprop(Rec m ∗ OW c sn cs ∗ cred (tallyAt ((c : Thread nD τ), .dma q) 0 N) ∗ atPos (ER : Emb UB 𝕄) ((c : Thread nD τ), .dma q) 0 ∅ 0)
      ⊢ iprop(((OW c sn cs ∗ atPos (ER : Emb UB 𝕄) ((c : Thread nD τ), .dma q) 1 ∅ 0 ∗ pay m c 0 (.dma q)) -∗ WP c (k ⟨⟩) Q) -∗ WP c (.op w k) Q) := by
  unfold OW
  iintro ⟨#HR, ⟨%W, HO⟩, Hc, Ha⟩ Hk
  ihave Hcell := rec_dma m c q hq $$ HR
  icases Hcell with ⟨⟨%κ, #Hi⟩, #Hr⟩
  iapply (Rounds.wp_wait_rest_token 𝒱₀ ER (Rd m) (c : Thread nD τ) none (κ := κ) hw (Set.mem_univ _) 0 (O := owed c sn cs) (W := W) (R := 0) (m := 0) (T := ∅)
    (by rw [expect_dma m c q hq, Nat.zero_add])) $$ [HO Hc Ha]
  · isplitr; · iexact Hi
    isplitl [Hc]; · iexact Hc
    isplitl [HO]; · iexact HO
    isplitr; · (iapply (mayWait c (.dma q) 0 (by decide) h₁ h₂); iapply (rec_lev m); iexact HR)
    iexact Ha
  iintro ⟨HO, Ha, -, Hp⟩
  ihave Hp := (Entails.of_eq (rest_dma m c q hq)) $$ Hp
  iapply Hk
  isplitl [HO]; · (iexists _; iexact HO)
  isplitl [Ha] <;> iassumption

/-- The wait for a copy into a buffer with the credit `N` is a wait for `N`. -/
theorem wait_spec (q : DmaSem sig) {sp sp' : Space} {s' : Shape} {e' : EltTy} {src : Memref sig .tc sp' s' e'} {dst : Memref sig .tc sp S1024x1024 .f32} {hsrc hdst}
    (hN : dst.view.amount (.dma q) = N) (K : PUnit → sProp 𝕄) :
    wpE (defs₀ (F := F)) 𝒱₀ (c : Thread nD τ) none Set.univ (.waitDma2 q src dst hsrc hdst) K = waitSpec (c : Thread nD τ) Set.univ (.dma q) N K :=
  congrArg (fun n => waitSpec (c : Thread nD τ) Set.univ (.dma q) n K) hN

/-- A copy on the device. -/
theorem dma_copy {Q : α → sProp 𝕄} (q : DmaSem sig) (hq : 1 ≤ q.val) {sp sp' : Space} {src : Memref sig .tc sp S1024x1024 .f32}
    {dst : Memref sig .tc sp' S1024x1024 .f32} {v : Blk F} (hN : dst.view.amount (.dma q) = N)
    (hpay : iprop(own c dst v ∗ own c src v) ⊢ pay m c 0 (.dma q)) {hsrc hdst hsem}
    {k : PUnit → Prog (TpuEff nD τ sig (Elt F) Λ₀ (c : Thread nD τ).2) α} :
    iprop(Rec m ∗ own c src v ∗ anyOwn c dst ∗ dutyTok (ER : Emb UB 𝕄) ((c : Thread nD τ), .dma q) 0 0)
      ⊢ iprop((cred (tallyAt ((c : Thread nD τ), .dma q) 0 N) -∗ WP c (k ⟨⟩) Q)
        -∗ WP c (.op (.enqueueDma src (.here dst) (.dma q) hsrc hdst hsem) k) Q) := by
  have hp : ∀ fs fd, src.view.read (Elt F) fs = v →
      iprop((dst.view.loc (c : Thread nD τ) ↦[dst.view.set]{fullShare} (dst.view.write (Elt F) fd (src.view.read (Elt F) fs) Finset.univ))
        ∗ (src.view.loc (c : Thread nD τ) ↦[src.view.set]{fullShare} fs)) ⊢ (iprop(own c dst v ∗ own c src v) : sProp 𝕄) := by
    intro fs fd hfs
    unfold own owns
    iintro ⟨Hd, Hs⟩
    isplitl [Hd]
    · iexists _; isplitr; rotate_left 1; (· iexact Hd)
      ipureintro; rw [View.read_write_univ]; exact hfs
    · iexists fs; isplitr; · (ipureintro; exact hfs)
      iexact Hs
  unfold anyOwn
  iintro ⟨#HR, Hs, ⟨%v', Hd⟩, Ht⟩ Hk
  unfold own owns
  icases Hs with ⟨%fs, %hfs, Hs⟩
  icases Hd with ⟨%fd, %hfd, Hd⟩
  ihave Hcell := rec_dma m c q hq $$ HR
  icases Hcell with ⟨⟨%κ, #Hi⟩, #Hr⟩
  iapply (Rounds.wp_copy_pointsTo 𝒱₀ ER (Rd m) (c : Thread nD τ) none (κ := κ) (q := fullShare) (fs := fs) (fd := fd) (r := 0) (d := 0)
    (by rw [duties_cell, dut_dma q hq]; exact Finset.mem_singleton_self _) 0 N hN rfl (by
      rw [payload_cell]; exact (hp fs fd hfs).trans hpay)) $$ [Hs Hd Ht]
  · isplitr; · iexact Hi
    isplitl [Hs]; · iexact Hs
    isplitl [Hd]; · iexact Hd
    isplitl [Ht]; · iexact Ht
    iexact Hr
  iexact Hk

/-- A send to the right neighbour: its source slot is to come back through the send cell, and the slot of the
    neighbour goes to it, filled, through its receive cell. -/
theorem dma_send {Q : α → sProp 𝕄} {g cs : ℕ} (hg : g < 28) {hsc hsrc hdst hsem}
    {k : PUnit → Prog (TpuEff nD τ sig (Elt F) Λ₀ (c : Thread nD τ).2) α} :
    iprop(Rec m ∗ own c (commM g (g / 4)) (part m c (g / 4) (g % 4)) ∗ dSlot c g ∗ OW c g cs
        ∗ dutyTok (ER : Emb UB 𝕄) (sendCell c g) 0 0 ∗ dutyTok (ER : Emb UB 𝕄) (recvCell (nxt c) g) 0 0)
      ⊢ iprop(((cred (tallyAt (sendCell c g) 0 N) ∗ OW c (g + 1) cs) -∗ WP c (k ⟨⟩) Q)
        -∗ WP c (.op (.enqueueDma (commM g (g / 4)) (.remote (Dev.tc (nxt c) : Thread nD τ) (commM g (g / 4 + 1)) (.dma (sendS g)) hsc) (.dma (recvS g)) hsrc hdst hsem) k) Q) := by
  unfold dSlot anyOwn OW
  iintro ⟨#HR, Hs, ⟨%v', Hd⟩, ⟨%W, HO⟩, Ht1, Ht2⟩ Hk
  unfold own owns
  icases Hs with ⟨%fs, %hfs, Hs⟩
  icases Hd with ⟨%fd, %hfd, Hd⟩
  ihave Hcell := rec_dma m c (sendS g) (sendS_pos hg) $$ HR
  icases Hcell with ⟨⟨%κ, #Hi⟩, #Hr⟩
  ihave Hcell := rec_dma m (nxt c) (recvS g) (recvS_pos hg) $$ HR
  icases Hcell with ⟨⟨%κ', #Hi'⟩, #Hr'⟩
  iapply (Rounds.wp_send_pointsTo 𝒱₀ ER (Rd m) (c : Thread nD τ) none (κ₁ := κ) (κ₂ := κ') (q := fullShare) (fs := fs) (fd := fd) (r₁ := 0) (r₂ := 0) (d₁ := 0) (d₂ := 0)
    (by rw [duties_cell, dut_dma _ (sendS_pos hg)]; exact Finset.mem_singleton_self _)
    (by rw [duties_cell, dut_dma _ (recvS_pos hg)]; exact Finset.mem_singleton_self _)
    0 0 N (amount_comm g (g / 4 + 1) (recvS g)) rfl rfl (owed c (g + 1) cs) (owed_send c hg) (W := W)
    (by
      rw [payload_cell, pay_send m c hg]; unfold sendPay anyOwn
      iintro Hs; iexists _; iapply (owns_intro (c : Thread nD τ) (commM g (g / 4)) fullShare fs); iexact Hs)
    (by
      rw [payload_cell, pay_recv m (nxt c) hg]; unfold recvPay own owns
      rw [prv_nxt]
      iintro Hd
      iexists _; isplitr; rotate_left 1; (· iexact Hd)
      ipureintro; rw [View.read_write_univ]; exact hfs)) $$ [Hs Hd HO Ht1 Ht2]
  · isplitr; · iexact Hi
    isplitr; · iexact Hi'
    isplitl [Hs]; · iexact Hs
    isplitl [Hd]; · iexact Hd
    isplitl [HO]; · iexact HO
    isplitl [Ht1]; · iexact Ht1
    isplitr; · iexact Hr
    isplitl [Ht2]; · iexact Ht2
    iexact Hr'
  iintro ⟨Hc, HO⟩
  iapply Hk
  isplitl [Hc]; · iexact Hc
  iexists W; iexact HO

end Local

end Cert.RingProof
-- ==== Proof.Effects.lean ====
/-
  What each operation of the kernel does to the state of a device: from the state before it the program is correct
  if, from the state after it, the rest is.
-/
module

public import proofs.«01_k».proof.Proof.Steps

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable {m : (ℓ : Loc nD τ sig) → Buf (Elt F) ℓ} {c : Dev nD} {α : Type} {xs xw rc cw sn sw cs os ow ini fs : ℕ} {cur : Option (ℕ × Blk F)}

/-! ## Loads -/

/-- From the third copy on, the slot for copy `i + 2` holds chunk `i`. -/
theorem xSlot_late (i : ℕ) : xSlot m c (i + 2) = own c (xbM i) (Xc m c i) := by
  unfold xSlot
  rw [if_neg (by omega), show i + 2 - 2 = i by omega, xbM_congr (show (i + 2) % 2 = i % 2 by omega)]
theorem xSlot_any (i : ℕ) : xSlot m c i ⊢ (anyOwn c (xbM i) : sProp 𝕄) := by
  unfold xSlot; split
  · exact BI.Entails.refl _
  · unfold anyOwn; iintro H; iexists _; iexact H

/-- A load of the last chunk of `x` that was waited for. -/
theorem st_load_x {Q : α → sProp 𝕄} {i : ℕ} {hl} {K : (S1x1024x1024.Idx → Elt F .f32) → Prog (TpuEff nD τ sig (Elt F) Λ₀ (c : Thread nD τ).2) α}
    (h : xs ≤ i + 2) (hK : St m c xs (i + 1) rc cw sn sw cs os ow ini fs cur ⊢ WP c (K (liftX (Xc m c i))) Q) :
    St m c xs (i + 1) rc cw sn sw cs os ow ini fs cur ⊢ WP c (.op (.load (Memref.whole cc0_scratch1) (xbR i).toLoadRect hl) K) Q := by
  unfold St XQ at hK ⊢
  iintro ⟨HR, HOW, ⟨HX, HXs⟩, H⟩
  have e := pool_at (F := F) h (show i + 2 < i + 1 + 2 by omega) (xSlot m c)
  rw [xSlot_late] at e
  ihave HXs := e $$ HXs
  icases HXs with ⟨Hx, Hback⟩
  iapply (load_xb c) $$ Hx
  iintro Hx
  iapply hK
  isplitl [HR]; · iexact HR
  isplitl [HOW]; · iexact HOW
  isplitr [H]
  · isplitl [HX]; · iexact HX
    iapply Hback; iexact Hx
  · iexact H

/-- A load of a column tile of `w`. -/
theorem st_load_col {Q : α → sProp 𝕄} (t : ℕ) {hl} {K : (S1024x1024.Idx → Elt F .f32) → Prog (TpuEff nD τ sig (Elt F) Λ₀ (c : Thread nD τ).2) α}
    (hK : St m c xs xw rc cw sn sw cs os ow ini fs cur ⊢ WP c (K (wT m c t)) Q) :
    St m c xs xw rc cw sn sw cs os ow ini fs cur ⊢ WP c (.op (.load (Memref.whole cc0_stg0_0) (colR t).toLoadRect hl) K) Q := by
  unfold St at hK ⊢
  iintro ⟨HR, HOW, HX, HRQ, HS, HD, HC, HO, HW, H⟩
  iapply (load_col m c) $$ HW
  iintro HW
  iapply hK
  isplitl [HR]; · iexact HR
  isplitl [HOW]; · iexact HOW
  isplitl [HX]; · iexact HX
  isplitl [HRQ]; · iexact HRQ
  isplitl [HS]; · iexact HS
  isplitl [HD]; · iexact HD
  isplitl [HC]; · iexact HC
  isplitl [HO]; · iexact HO
  isplitl [HW]; · iexact HW
  iexact H

/-- The free slots and the slot being worked on, apart from the rest of the state. -/
def StRest (m : (ℓ : Loc nD τ sig) → Buf (Elt F) ℓ) (c : Dev nD) (xs xw rc cw sn sw cs os ow : ℕ) : sProp 𝕄 :=
  iprop(Rec m ∗ OW c sn cs ∗ XQ m c xs xw ∗ RQ c rc ∗ SQ c sn sw ∗ DQ c sn cw ∗ CQ c cs ∗ OQ m c os ow ∗ WS m c)

theorem st_split : St m c xs xw rc cw sn sw cs os ow ini fs cur ⊢ iprop(StRest m c xs xw rc cw sn sw cs os ow ∗ FQ c ini sw fs ∗ CU c cur) := by
  unfold St StRest
  iintro ⟨HR, HOW, HX, HRQ, HS, HD, HC, HO, HW, H⟩
  isplitr [H]; rotate_left 1; (· iexact H)
  isplitl [HR]; · iexact HR
  isplitl [HOW]; · iexact HOW
  isplitl [HX]; · iexact HX
  isplitl [HRQ]; · iexact HRQ
  isplitl [HS]; · iexact HS
  isplitl [HD]; · iexact HD
  isplitl [HC]; · iexact HC
  isplitl [HO]; · iexact HO
  iexact HW
theorem st_join : iprop(StRest m c xs xw rc cw sn sw cs os ow ∗ FQ c ini sw fs ∗ CU c cur) ⊢ St m c xs xw rc cw sn sw cs os ow ini fs cur := by
  unfold St StRest
  iintro ⟨⟨HR, HOW, HX, HRQ, HS, HD, HC, HO, HW⟩, H⟩
  isplitl [HR]; · iexact HR
  isplitl [HOW]; · iexact HOW
  isplitl [HX]; · iexact HX
  isplitl [HRQ]; · iexact HRQ
  isplitl [HS]; · iexact HS
  isplitl [HD]; · iexact HD
  isplitl [HC]; · iexact HC
  isplitl [HO]; · iexact HO
  isplitl [HW]; · iexact HW
  iexact H

/-- A load of the slot being worked on, -/
theorem st_load_cur {Q : α → sProp 𝕄} {g : ℕ} {v : Blk F} {hl} {K : (S1x1x1024x1024.Idx → Elt F .f32) → Prog (TpuEff nD τ sig (Elt F) Λ₀ (c : Thread nD τ).2) α}
    (hK : St m c xs xw rc cw sn sw cs os ow ini fs (some (g, v)) ⊢ WP c (K (liftC v)) Q) :
    St m c xs xw rc cw sn sw cs os ow ini fs (some (g, v)) ⊢ WP c (.op (.load (Memref.whole cc0_scratch0) (commR g (g / 4)).toLoadRect hl) K) Q := by
  refine st_split.trans ?_
  iintro ⟨H, HF, HU⟩
  unfold CU
  iapply (load_comm c) $$ HU
  iintro HU
  iapply (st_join.trans hK)
  isplitl [H]; · iexact H
  isplitl [HF]; · iexact HF
  unfold CU; iexact HU
/-- of a slot that the first round is about to fill, whose contents nothing depends on, -/
theorem st_load_ini {Q : α → sProp 𝕄} (h : ini < 4) {hl} {K : (S1x1x1024x1024.Idx → Elt F .f32) → Prog (TpuEff nD τ sig (Elt F) Λ₀ (c : Thread nD τ).2) α}
    (hK : ∀ v, St m c xs xw rc cw sn sw cs os ow ini fs cur ⊢ WP c (K v) Q) :
    St m c xs xw rc cw sn sw cs os ow ini fs cur ⊢ WP c (.op (.load (Memref.whole cc0_scratch0) (commR ini (ini / 4)).toLoadRect hl) K) Q := by
  refine st_split.trans ?_
  unfold FQ
  iintro ⟨H, ⟨HI, HF⟩, HU⟩
  ihave HI := pool_at (F := F) (le_refl ini) h (fun t => anyOwn c (commM t (t / 4))) $$ HI
  unfold anyOwn
  icases HI with ⟨⟨%v, Hs⟩, Hback⟩
  iapply (load_comm c) $$ Hs
  iintro Hs
  iapply (st_join.trans (hK (liftC v)))
  isplitl [H]; · iexact H
  isplitr [HU]
  · unfold FQ anyOwn
    isplitr [HF]
    · iapply Hback; iexists v; iexact Hs
    · iexact HF
  · iexact HU
/-- and of a slot that a tile of the result is about to fill. -/
theorem st_load_fin {Q : α → sProp 𝕄} (h : 24 + fs < sw) {hl} {K : (S1x1x1024x1024.Idx → Elt F .f32) → Prog (TpuEff nD τ sig (Elt F) Λ₀ (c : Thread nD τ).2) α}
    (hK : ∀ v, St m c xs xw rc cw sn sw cs os ow ini fs cur ⊢ WP c (K v) Q) :
    St m c xs xw rc cw sn sw cs os ow ini fs cur ⊢ WP c (.op (.load (Memref.whole cc0_scratch0) (commR (24 + fs) ((24 + fs) / 4)).toLoadRect hl) K) Q := by
  refine st_split.trans ?_
  unfold FQ
  iintro ⟨H, ⟨HI, HM, HF⟩, HU⟩
  ihave HM := pool_at (F := F) (le_refl (24 + fs)) h (fun g => anyOwn c (commM g (g / 4))) $$ HM
  unfold anyOwn
  icases HM with ⟨⟨%v, Hs⟩, Hback⟩
  iapply (load_comm c) $$ Hs
  iintro Hs
  iapply (st_join.trans (hK (liftC v)))
  isplitl [H]; · iexact H
  isplitr [HU]
  · unfold FQ anyOwn
    isplitl [HI]; · iexact HI
    isplitr [HF]
    · iapply Hback; iexists v; iexact Hs
    · iexact HF
  · iexact HU

/-! ## Stores -/

/-- A store to the slot being worked on, -/
theorem st_store_cur {Q : α → sProp 𝕄} {g : ℕ} {v : Blk F} {w : S1x1x1024x1024.Idx → F .f32} {hx hm} {K : PUnit → Prog (TpuEff nD τ sig (Elt F) Λ₀ (c : Thread nD τ).2) α}
    (hK : St m c xs xw rc cw sn sw cs os ow ini fs (some (g, lowC w)) ⊢ WP c (K ⟨⟩) Q) :
    St m c xs xw rc cw sn sw cs os ow ini fs (some (g, v)) ⊢ WP c (.op (.store (Memref.whole cc0_scratch0) (commR g (g / 4)) w Finset.univ hx hm) K) Q := by
  refine st_split.trans ?_
  iintro ⟨H, HF, HU⟩
  unfold CU
  have e : own c (commM g (g / 4)) v ⊢ (anyOwn c (commM g (g / 4)) : sProp 𝕄) := by unfold anyOwn; iintro H; iexists v; iexact H
  ihave HU := e $$ HU
  iapply (store_comm c) $$ HU
  iintro HU
  iapply (st_join.trans hK)
  isplitl [H]; · iexact H
  isplitl [HF]; · iexact HF
  unfold CU; iexact HU
/-- to the next slot of the first round, -/
theorem st_store_ini {Q : α → sProp 𝕄} (h : ini < 4) {w : S1x1x1024x1024.Idx → F .f32} {hx hm} {K : PUnit → Prog (TpuEff nD τ sig (Elt F) Λ₀ (c : Thread nD τ).2) α}
    (hK : St m c xs xw rc cw sn sw cs os ow (ini + 1) fs (some (ini, lowC w)) ⊢ WP c (K ⟨⟩) Q) :
    St m c xs xw rc cw sn sw cs os ow ini fs none ⊢ WP c (.op (.store (Memref.whole cc0_scratch0) (commR ini (ini / 4)) w Finset.univ hx hm) K) Q := by
  refine st_split.trans ?_
  unfold FQ CU
  iintro ⟨H, ⟨HI, HF⟩, -⟩
  ihave HI := pool_pop (F := F) h (fun t => anyOwn c (commM t (t / 4))) $$ HI
  icases HI with ⟨Hs, HI⟩
  iapply (store_comm c) $$ Hs
  iintro HU
  iapply (st_join.trans hK)
  isplitl [H]; · iexact H
  isplitr [HU]
  · unfold FQ
    isplitl [HI]; · iexact HI
    iexact HF
  · unfold CU; iexact HU
/-- and to the slot that a tile of the result is copied out of, the last partial sum having been used. -/
theorem st_store_fin {Q : α → sProp 𝕄} (h : 24 + fs < sw) {v : Blk F} {w : S1x1x1024x1024.Idx → F .f32} {hx hm} {K : PUnit → Prog (TpuEff nD τ sig (Elt F) Λ₀ (c : Thread nD τ).2) α}
    (hK : St m c xs xw rc cw sn sw cs os ow ini (fs + 1) (some (24 + fs, lowC w)) ⊢ WP c (K ⟨⟩) Q) :
    St m c xs xw rc cw sn sw cs os ow ini fs (some (28 + fs, v)) ⊢ WP c (.op (.store (Memref.whole cc0_scratch0) (commR (24 + fs) ((24 + fs) / 4)) w Finset.univ hx hm) K) Q := by
  refine st_split.trans ?_
  unfold FQ CU
  iintro ⟨H, ⟨HI, HM, HF⟩, HU⟩
  ihave HM := pool_pop (F := F) h (fun g => anyOwn c (commM g (g / 4))) $$ HM
  icases HM with ⟨Hs, HM⟩
  iapply (store_comm c) $$ Hs
  iintro Hs
  iapply (st_join.trans hK)
  isplitl [H]; · iexact H
  isplitr [Hs]
  · unfold FQ
    isplitl [HI]; · iexact HI
    isplitl [HM]; · iexact HM
    iapply (pool_push (F := F) (Nat.zero_le fs) (fun t => anyOwn c (commM (28 + t) ((28 + t) / 4))))
    isplitl [HU]
    · unfold anyOwn; iexists v; iexact HU
    · iexact HF
  · unfold CU; iexact Hs

/-! ## The copies of `x` -/

/-- A copy of `x` starts, -/
theorem st_enq_x {Q : α → sProp 𝕄} (h : xs < 8) (h₁ : xs < xw + 2) (h₂ : xw ≤ xs) {off : Fin 2 → ℕ} {hin : ∀ a, off a + S1024x1024.size a ≤ S8192x1024.size a}
    (hoff : off = ![1024 * ((c.val + 7 - xs) % 8), 0]) {hu hsrc hdst hsem} {K : PUnit → Prog (TpuEff nD τ sig (Elt F) Λ₀ (c : Thread nD τ).2) α}
    (hK : St m c (xs + 1) xw rc cw sn sw cs os ow ini fs cur ⊢ WP c (K ⟨⟩) Q) :
    St m c xs xw rc cw sn sw cs os ow ini fs cur ⊢ WP c (.op (.enqueueDma ((Memref.whole main_arg0).slice (Rect.unit (s := S8192x1024) off S1024x1024.size hin) hu)
      (.here (xbM xs)) (.dma (xS xs)) hsrc hdst hsem) K) Q := by
  subst hoff
  unfold St XQ at hK ⊢
  iintro ⟨#HR, HOW, ⟨HX, HXs⟩, H⟩
  ihave HX := que_start (F := F) h h₂ (xTodo m c) (xRun c) (xDone m c) $$ HX
  icases HX with ⟨Ht, Hback⟩
  ihave HXs := pool_pop (F := F) h₁ (xSlot m c) $$ HXs
  icases HXs with ⟨Hs, HXs⟩
  ihave Hs := xSlot_any xs $$ Hs
  unfold xTodo
  icases Ht with ⟨Ht, Ha, Hx⟩
  iapply (dma_copy m c (xS xs) (xS_pos h) (v := Xc m c xs) (amount_xb xs (xS xs)) (by rw [pay_x m c h]; unfold xPay; exact BI.Entails.refl _)) $$ [Ht Hx Hs]
  · isplitr; · iexact HR
    isplitl [Hx]; · iexact Hx
    isplitl [Hs]; · iexact Hs
    iexact Ht
  iintro Hc
  iapply hK
  isplitr; · iexact HR
  isplitl [HOW]; · iexact HOW
  isplitr [H]
  · isplitr [HXs]
    · iapply Hback; unfold xRun; isplitl [Hc] <;> iassumption
    · iexact HXs
  · iexact H

/-- and is waited for. -/
theorem st_wait_x {Q : α → sProp 𝕄} (h : xw < xs) (h8 : xw < 8) (h₂ : xs ≤ xw + 2) {sp' : Space} {s' : Shape} {e' : EltTy} {src : Memref sig .tc sp' s' e'} {hsrc hdst} {K : PUnit → Prog (TpuEff nD τ sig (Elt F) Λ₀ (c : Thread nD τ).2) α}
    (hK : St m c xs (xw + 1) rc cw sn sw cs os ow ini fs cur ⊢ WP c (K ⟨⟩) Q) :
    St m c xs xw rc cw sn sw cs os ow ini fs cur ⊢ WP c (.op (.waitDma2 (xS xw) src (xbM xw) hsrc hdst) K) Q := by
  unfold St XQ at hK ⊢
  iintro ⟨#HR, HOW, ⟨HX, HXs⟩, H⟩
  ihave HX := que_finish (F := F) h (xTodo m c) (xRun c) (xDone m c) $$ HX
  icases HX with ⟨Ht, Hback⟩
  unfold xRun
  icases Ht with ⟨Hc, Ha⟩
  iapply (dma_wait m c (sn := sn) (cs := cs) (xS xw) (xS_pos h8) (w := .waitDma2 (xS xw) src (xbM xw) hsrc hdst) (wait_spec c _ (amount_xb xw (xS xw)))
    (fun _ => by rw [lvS_x h8]; omega) (fun _ => by rw [lvS_x h8]; omega)) $$ [HOW Hc Ha]
  · isplitr; · iexact HR
    isplitl [HOW]; · iexact HOW
    isplitl [Hc]; · iexact Hc
    iexact Ha
  rw [pay_x m c h8]; unfold xPay
  iintro ⟨HOW, Ha, Hs, Hx⟩
  iapply hK
  isplitr; · iexact HR
  isplitl [HOW]; · iexact HOW
  isplitr [H]
  · isplitr [HXs Hs]
    · iapply Hback; unfold xDone; isplitl [Ha] <;> iassumption
    · iapply (pool_push (F := F) h₂ (xSlot m c)); rw [xSlot_late]
      isplitl [Hs] <;> iassumption
  · iexact H

end Cert.RingProof
-- ==== Proof.Ring.lean ====
/-
  What the sends, the receives, the credits and the copies of the result do to the state of a device.
-/
module

public import proofs.«01_k».proof.Proof.Effects

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable {m : (ℓ : Loc nD τ sig) → Buf (Elt F) ℓ} {c : Dev nD} {α : Type} {xs xw rc cw sn sw cs os ow ini fs : ℕ} {cur : Option (ℕ × Blk F)}

/-! ## Receives and sends -/

/-- The wait for a receive hands over the slot with the left neighbour's partial sum. -/
theorem st_wait_recv {Q : α → sProp 𝕄} (h : rc < 28) (h₁ : sn < 28 → rc < sn) (h₂ : cs < 24 → rc < cs) {sp' : Space} {s' : Shape} {e' : EltTy}
    {src : Memref sig .tc sp' s' e'} {hsrc hdst} {K : PUnit → Prog (TpuEff nD τ sig (Elt F) Λ₀ (c : Thread nD τ).2) α}
    (hK : St m c xs xw (rc + 1) cw sn sw cs os ow ini fs (some (rc + 4, part m (prv c) (rc / 4) (rc % 4))) ⊢ WP c (K ⟨⟩) Q) :
    St m c xs xw rc cw sn sw cs os ow ini fs none ⊢ WP c (.op (.waitDma2 (recvS rc) src (commM rc (rc / 4 + 1)) hsrc hdst) K) Q := by
  unfold St RQ CU at hK ⊢
  iintro ⟨#HR, HOW, HX, ⟨HRQ, HRD⟩, HS, HD, HC, HO, HW, HF, -⟩
  ihave HRQ := pool_pop (F := F) h (rTodo c) $$ HRQ
  icases HRQ with ⟨Ht, HRQ⟩
  unfold rTodo
  icases Ht with ⟨Hc, Ha⟩
  iapply (dma_wait m c (sn := sn) (cs := cs) (recvS rc) (recvS_pos h) (w := .waitDma2 (recvS rc) src (commM rc (rc / 4 + 1)) hsrc hdst)
    (wait_spec c _ (amount_comm rc (rc / 4 + 1) (recvS rc)))
    (fun hs => by rw [lvS_recv h]; have := h₁ hs; omega) (fun hs => by rw [lvS_recv h]; have := h₂ hs; omega)) $$ [HOW Hc Ha]
  · isplitr; · iexact HR
    isplitl [HOW]; · iexact HOW
    isplitl [Hc]; · iexact Hc
    iexact Ha
  rw [pay_recv m c h]; unfold recvPay
  rw [commM_congr (show rc % 4 = (rc + 4) % 4 by omega) (show (rc / 4 + 1) % 2 = ((rc + 4) / 4) % 2 by omega)]
  iintro ⟨HOW, Ha, Hs⟩
  iapply hK
  isplitr; · iexact HR
  isplitl [HOW]; · iexact HOW
  isplitl [HX]; · iexact HX
  isplitl [HRQ HRD Ha]
  · isplitl [HRQ]; · iexact HRQ
    iapply (pool_push (F := F) (Nat.zero_le rc) (rDone c)); unfold rDone
    isplitl [Ha] <;> iassumption
  isplitl [HS]; · iexact HS
  isplitl [HD]; · iexact HD
  isplitl [HC]; · iexact HC
  isplitl [HO]; · iexact HO
  isplitl [HW]; · iexact HW
  isplitl [HF]; · iexact HF
  iexact Hs

/-- A send starts. -/
theorem st_send {Q : α → sProp 𝕄} (h : sn < 28) (h₁ : sn < cw + 4) (h₂ : sw ≤ sn) {v : Blk F} (hv : v = part m c (sn / 4) (sn % 4)) {n : Dev nD} (hn : n.val = (c.val + 1) % 8)
    {hsc hsrc hdst hsem} {K : PUnit → Prog (TpuEff nD τ sig (Elt F) Λ₀ (c : Thread nD τ).2) α}
    (hK : St m c xs xw rc cw (sn + 1) sw cs os ow ini fs none ⊢ WP c (K ⟨⟩) Q) :
    St m c xs xw rc cw sn sw cs os ow ini fs (some (sn, v)) ⊢ WP c (.op (.enqueueDma (commM sn (sn / 4))
      (.remote (Dev.tc n : Thread nD τ) (commM sn (sn / 4 + 1)) (.dma (sendS sn)) hsc) (.dma (recvS sn)) hsrc hdst hsem) K) Q := by
  obtain rfl : n = nxt c := Fin.ext hn
  subst hv
  unfold St SQ DQ CU at hK ⊢
  iintro ⟨#HR, HOW, HX, HRQ, HS, ⟨HD1, HD2, HD3⟩, HC, HO, HW, HF, HU⟩
  ihave HS := que_start (F := F) h h₂ (sTodo c) (sRun c) (sDone c) $$ HS
  icases HS with ⟨Ht, Hback⟩
  unfold sTodo
  icases Ht with ⟨Ht1, Ht2, Ha, Hrel⟩
  ihave HD2 := pool_pop (F := F) h₁ (dSlot c) $$ HD2
  icases HD2 with ⟨Hd, HD2⟩
  iapply (dma_send m c h) $$ [HU Hd HOW Ht1 Ht2]
  · isplitr; · iexact HR
    isplitl [HU]; · iexact HU
    isplitl [Hd]; · iexact Hd
    isplitl [HOW]; · iexact HOW
    isplitl [Ht1] <;> iassumption
  iintro ⟨Hc, HOW⟩
  iapply hK
  isplitr; · iexact HR
  isplitl [HOW]; · iexact HOW
  isplitl [HX]; · iexact HX
  isplitl [HRQ]; · iexact HRQ
  isplitl [Hback Hc Ha Hrel]
  · iapply Hback; unfold sRun
    isplitl [Hc]; · iexact Hc
    isplitl [Ha] <;> iassumption
  isplitl [HD1 HD2 HD3]
  · isplitl [HD1]; · iexact HD1
    isplitl [HD2] <;> iassumption
  isplitl [HC]; · iexact HC
  isplitl [HO]; · iexact HO
  isplitl [HW]; · iexact HW
  isplitl [HF]; · iexact HF
  iempintro

/-- No two hold the same slot. -/
theorem anyOwn_excl (t k : ℕ) : iprop(anyOwn c (commM t k) ∗ anyOwn c (commM t k)) ⊢ (False : sProp 𝕄) := by
  unfold anyOwn owns
  iintro ⟨⟨%v, %f, -, Hf⟩, ⟨%w, %g, -, Hg⟩⟩
  have hm : (commM t k).view.emb (fun a => ⟨0, by fin_cases a <;> decide⟩) ∈ (commM t k).view.set := View.emb_mem_set _ _
  iapply (pointsTo_overlap_false (ℓ := (commM t k).view.loc (c : Thread nD τ)) (I := (commM t k).view.set) (J := (commM t k).view.set) hm hm)
  isplitl [Hf] <;> iassumption

/-- The wait for a send of the first six rounds: its slot is released to the left neighbour. -/
theorem st_wait_send {Q : α → sProp 𝕄} (h : sw < sn) (h24 : sw < 24) {sp' : Space} {s' : Shape} {e' : EltTy}
    {src : Memref sig .tc sp' s' e'} {hsrc hdst} {K : PUnit → Prog (TpuEff nD τ sig (Elt F) Λ₀ (c : Thread nD τ).2) α}
    (hK : St m c xs xw rc cw sn (sw + 1) cs os ow ini fs cur ⊢ WP c (K ⟨⟩) Q) :
    St m c xs xw rc cw sn sw cs os ow ini fs cur ⊢ WP c (.op (.waitDma2 (sendS sw) src (commM sw (sw / 4)) hsrc hdst) K) Q := by
  unfold St SQ at hK ⊢
  have hf : FQ c ini sw fs ⊢ (FQ c ini (sw + 1) fs : sProp 𝕄) := by
    unfold FQ
    rw [pool_nil (show sw ≤ 24 + fs by omega), pool_nil (show sw + 1 ≤ 24 + fs by omega)]
  iintro ⟨#HR, HOW, HX, HRQ, HS, HD, HC, HO, HW, HF, HU⟩
  ihave HS := que_finish (F := F) h (sTodo c) (sRun c) (sDone c) $$ HS
  icases HS with ⟨Ht, Hback⟩
  unfold sRun sRel
  rw [if_pos h24]
  icases Ht with ⟨Hc, Ha, Hrd⟩
  iapply (dma_wait m c (sn := sn) (cs := cs) (sendS sw) (sendS_pos (by omega)) (w := .waitDma2 (sendS sw) src (commM sw (sw / 4)) hsrc hdst)
    (wait_spec c _ (amount_comm sw (sw / 4) (sendS sw)))
    (fun hs => by rw [lvS_send (by omega)]; omega) (fun hs => by rw [lvS_send (by omega)]; omega)) $$ [HOW Hc Ha]
  · isplitr; · iexact HR
    isplitl [HOW]; · iexact HOW
    isplitl [Hc]; · iexact Hc
    iexact Ha
  rw [pay_send m c (show sw < 28 by omega)]; unfold sendPay
  iintro ⟨HOW, Ha, Hs⟩
  ihave Hsl := rec_slot m c h24 $$ HR
  icases Hsl with ⟨%ι, #Hsl⟩
  imod (Release.slot_release (ES : Emb UK 𝕄) (Set.mem_univ ι) (anyOwn_excl (c := c) sw (sw / 4)) 0) $$ [Hrd Hs] with ⟨-, Hrel⟩
  · isplitr; · iexact Hsl
    isplitl [Hrd] <;> iassumption
  ihave HF := hf $$ HF
  iapply hK
  isplitr; · iexact HR
  isplitl [HOW]; · iexact HOW
  isplitl [HX]; · iexact HX
  isplitl [HRQ]; · iexact HRQ
  isplitl [Hback Ha Hrel]
  · iapply Hback; unfold sDone; rw [if_pos h24]
    isplitl [Ha] <;> iassumption
  isplitl [HD]; · iexact HD
  isplitl [HC]; · iexact HC
  isplitl [HO]; · iexact HO
  isplitl [HW]; · iexact HW
  isplitl [HF]; · iexact HF
  iexact HU

/-- The wait for a send of the last round: the device keeps its slot. -/
theorem st_wait_send_last {Q : α → sProp 𝕄} (h : sw < sn) (h24 : 24 + fs ≤ sw) (h28 : sw < 28) {sp' : Space} {s' : Shape} {e' : EltTy}
    {src : Memref sig .tc sp' s' e'} {hsrc hdst} {K : PUnit → Prog (TpuEff nD τ sig (Elt F) Λ₀ (c : Thread nD τ).2) α}
    (hK : St m c xs xw rc cw sn (sw + 1) cs os ow ini fs cur ⊢ WP c (K ⟨⟩) Q) :
    St m c xs xw rc cw sn sw cs os ow ini fs cur ⊢ WP c (.op (.waitDma2 (sendS sw) src (commM sw (sw / 4)) hsrc hdst) K) Q := by
  unfold St SQ FQ at hK ⊢
  iintro ⟨#HR, HOW, HX, HRQ, HS, HD, HC, HO, HW, ⟨HF1, HF2, HF3⟩, HU⟩
  ihave HS := que_finish (F := F) h (sTodo c) (sRun c) (sDone c) $$ HS
  icases HS with ⟨Ht, Hback⟩
  unfold sRun
  icases Ht with ⟨Hc, Ha, -⟩
  iapply (dma_wait m c (sn := sn) (cs := cs) (sendS sw) (sendS_pos (by omega)) (w := .waitDma2 (sendS sw) src (commM sw (sw / 4)) hsrc hdst)
    (wait_spec c _ (amount_comm sw (sw / 4) (sendS sw)))
    (fun hs => by rw [lvS_send (by omega)]; omega) (fun hs => by rw [lvS_send (by omega)]; omega)) $$ [HOW Hc Ha]
  · isplitr; · iexact HR
    isplitl [HOW]; · iexact HOW
    isplitl [Hc]; · iexact Hc
    iexact Ha
  rw [pay_send m c h28]; unfold sendPay
  iintro ⟨HOW, Ha, Hs⟩
  iapply hK
  isplitr; · iexact HR
  isplitl [HOW]; · iexact HOW
  isplitl [HX]; · iexact HX
  isplitl [HRQ]; · iexact HRQ
  isplitl [Hback Ha]
  · iapply Hback; unfold sDone; rw [if_neg (show ¬ sw < 24 by omega)]
    isplitl [Ha]; · iexact Ha
    iempintro
  isplitl [HD]; · iexact HD
  isplitl [HC]; · iexact HC
  isplitl [HO]; · iexact HO
  isplitl [HW]; · iexact HW
  isplitr [HU]
  · isplitl [HF1]; · iexact HF1
    isplitr [HF3]
    · iapply (pool_push (F := F) h24 (fun g => anyOwn c (commM g (g / 4))))
      isplitl [Hs] <;> iassumption
    · iexact HF3
  iexact HU

end Cert.RingProof
-- ==== Proof.Credit.lean ====
/-
  What the credits and the copies of the result do to the state of a device.
-/
module

public import proofs.«01_k».proof.Proof.Ring

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable {m : (ℓ : Loc nD τ sig) → Buf (Elt F) ℓ} {c : Dev nD} {α : Type} {xs xw rc cw sn sw cs os ow ini fs : ℕ} {cur : Option (ℕ × Blk F)}

/-! ## Signalling -/

/-- What the sends waited for so far have released is known for good. -/
theorem released_upto {k : ℕ} (h : k ≤ sw) (h24 : k ≤ 24) :
    pool 0 sw (sDone (F := F) c) ⊢ iprop((bigSep (Finset.range k) fun i => Release.released (K := Key) (ES : Emb UK 𝕄) (c, i) 1) ∗ pool 0 sw (sDone c)) := by
  induction k with
  | zero =>
    iintro H
    isplitr; · (rw [Finset.range_zero, bigSep_empty]; iempintro)
    iexact H
  | succ k ih =>
    have e := pool_at (F := F) (Nat.zero_le k) (show k < sw by omega) (sDone c)
    refine (ih (by omega) (by omega)).trans ?_
    iintro ⟨#Hr, H⟩
    ihave H := e $$ H
    unfold sDone
    rw [if_pos (show k < 24 by omega)]
    icases H with ⟨⟨Ha, #Hk⟩, Hback⟩
    isplitr
    · have ej : iprop(Release.released (K := Key) (ES : Emb UK 𝕄) (c, k) 1 ∗ bigSep (Finset.range k) fun i => Release.released (K := Key) (ES : Emb UK 𝕄) (c, i) 1)
          ⊢ bigSep (Finset.range (k + 1)) fun i => Release.released (K := Key) (ES : Emb UK 𝕄) (c, i) 1 :=
        Entails.of_eq (by rw [Finset.range_add_one, bigSep_insert Finset.notMem_range_self]; rfl)
      iapply ej
      isplitr <;> iassumption
    · iapply Hback; isplitl [Ha]; · iexact Ha
      iexact Hk

/-- A credit is signalled to the left neighbour. -/
theorem st_signal {Q : α → sProp 𝕄} (h : cs < sw) (h24 : cs < 24) {n : Dev nD} (hn : n.val = (c.val + 7) % 8) {z : Int} (hz : z = ((1 : ℕ) : Int)) {K : PUnit → Prog (TpuEff nD τ sig (Elt F) Λ₀ (c : Thread nD τ).2) α}
    (hK : St m c xs xw rc cw sn sw (cs + 1) os ow ini fs cur ⊢ WP c (K ⟨⟩) Q) :
    St m c xs xw rc cw sn sw cs os ow ini fs cur ⊢ WP c (.op (.semSignal (Dev.tc n : Thread nD τ) creditS z) K) Q := by
  obtain rfl : n = prv c := Fin.ext hn
  subst hz
  unfold St SQ que CQ OW at hK ⊢
  iintro ⟨#HR, ⟨%W, HOW⟩, HX, HRQ, ⟨HS1, HS2, HS3⟩, HD, HC, H⟩
  ihave HS3 := released_upto (F := F) (show cs + 1 ≤ sw by omega) (show cs + 1 ≤ 24 by omega) $$ HS3
  icases HS3 with ⟨#Hrel, HS3⟩
  ihave HC := pool_pop (F := F) h24 (fun k => dutyTok (ER : Emb UB 𝕄) (creditCell (prv c)) 0 k) $$ HC
  icases HC with ⟨Ht, HC⟩
  ihave Hcell := rec_credit m (prv c) $$ HR
  icases Hcell with ⟨⟨%κ, #Hi⟩, #Hr⟩
  iapply (Rounds.wp_signal 𝒱₀ ER (Rd m) (c : Thread nD τ) none (dst := (prv c : Thread nD τ)) (κ := κ) (r := 0) (d := cs) (k' := 1)
    (by rw [duties_cell, dut_cred]; exact Finset.mem_range.mpr h24) rfl cs (owed c sn (cs + 1)) (owed_credit c h24) (W := W)) $$ [HOW Ht]
  · isplitr; · iexact Hi
    isplitl [HOW]; · iexact HOW
    isplitl [Ht]; · iexact Ht
    isplitr
    · rw [payload_cell, pay_cred]; unfold credPay; rw [nxt_prv]; iexact Hrel
    · iexact Hr
  iintro HOW
  iapply hK
  isplitr; · iexact HR
  isplitl [HOW]; · (iexists W; iexact HOW)
  isplitl [HX]; · iexact HX
  isplitl [HRQ]; · iexact HRQ
  isplitl [HS1 HS2 HS3]
  · isplitl [HS1]; · iexact HS1
    isplitl [HS2] <;> iassumption
  isplitl [HD]; · iexact HD
  isplitl [HC]; · iexact HC
  iexact H

/-! ## Waiting for a credit -/

/-- When one unit more was taken than `k`, a duty from `k` on has landed. -/
theorem exists_late {k : ℕ} {S : Finset ℕ} (hS : S ⊆ Finset.range 24) (h : k + 1 + (Finset.range 24 \ S).card ≤ 24) : ∃ d ∈ S, k ≤ d := by
  by_contra hn
  have hsub : S ⊆ Finset.range k := fun d hd => Finset.mem_range.mpr (Nat.lt_of_not_le fun hk => hn ⟨d, hd, hk⟩)
  have h₁ := Finset.card_le_card hsub
  rw [Finset.card_range] at h₁
  have h₂ := Finset.card_sdiff_add_card_eq_card hS
  rw [Finset.card_range] at h₂
  omega

/-- What a smaller set of duties hands over, and the rest. -/
theorem credPay_union {T S : Finset ℕ} (h : T ⊆ S) : iprop(bigSep T (credPay (F := F) c) ∗ bigSep (S \ T) (credPay c)) ⊢ bigSep S (credPay c) := by
  have e := bigSep_union (Φ := credPay (F := F) c) (Finset.disjoint_sdiff (s := T) (t := S))
  rw [Finset.union_sdiff_of_subset h] at e
  exact Entails.of_eq e.symm

/-- The landed duties tell that the slot is released. -/
theorem released_of {k : ℕ} {S : Finset ℕ} (h : ∃ d ∈ S, k ≤ d) :
    bigSep S (credPay c) ⊢ (Release.released (K := Key) (ES : Emb UK 𝕄) (nxt c, k) 1 : sProp 𝕄) := by
  obtain ⟨d, hd, hk⟩ := h
  refine (bigSep_elim hd).trans ?_
  unfold credPay
  exact bigSep_elim (Φ := fun i => Release.released (K := Key) (ES : Emb UK 𝕄) (nxt c, i) 1) (Finset.mem_range.mpr (by omega))

/-- The wait at the credit cell alone: a credit is used up, and the slot it was for is released. -/
theorem credit_wait {Q : α → sProp 𝕄} {k : ℕ} (h : k < 24) (h₁ : sn < 28 → k < sn) (h₂ : cs < 24 → k < cs) {K : PUnit → Prog (TpuEff nD τ sig (Elt F) Λ₀ (c : Thread nD τ).2) α} :
    iprop(Rec m ∗ OW c sn cs ∗ cred (tallyAt (creditCell c) k 1) ∗ credAt c k)
      ⊢ iprop(((OW c sn cs ∗ credAt c (k + 1) ∗ Release.released (K := Key) (ES : Emb UK 𝕄) (nxt c, k) 1) -∗ WP c (K ⟨⟩) Q)
        -∗ WP c (.op (.semWait creditS ((1 : ℕ) : Int)) K) Q) := by
  unfold OW credAt
  rw [if_pos h]
  iintro ⟨#HR, ⟨%W, HO⟩, Hc, ⟨%T, %hT, Ha, #HT⟩⟩ Hk
  ihave Hcell := rec_credit m c $$ HR
  icases Hcell with ⟨⟨%κ, #Hi⟩, #Hr⟩
  have hl : Rec m ⊢ (MayWait (c : Thread nD τ) (.reg creditS) k (owed c sn cs) : sProp 𝕄) :=
    (rec_lev m).trans (mayWait c (.reg creditS) k (by omega) (fun hs => by rw [lvS_credit]; have := h₁ hs; omega) (fun hs => by rw [lvS_credit]; have := h₂ hs; omega))
  rcases Nat.lt_or_ge k 23 with h23 | h23
  · rw [if_pos (show k + 1 < 24 by omega)]
    iapply (Rounds.wp_wait 𝒱₀ ER (Rd m) (c : Thread nD τ) none (κ := κ) (wpE_semWait_eq 𝒱₀ (c : Thread nD τ) none Set.univ) (Set.mem_univ _)
      (cr := Finsupp.single k 1) (O := owed c sn cs) (W := W) {(SemLoc.reg creditS, k)} (R := 0) (m := k) (T := T)
      (Util.total_single k 1) (image_single_subset (SemLoc.reg creditS) k 1)) $$ [HO Hc Ha]
    · isplitr; · iexact Hi
      isplitl [Hc]; · iexact Hc
      isplitl [HO]; · iexact HO
      isplitr; · (iapply hl; iexact HR)
      iexact Ha
    iintro %S ⟨%hS, HO, Ha, HS⟩
    rw [duties_cell, dut_cred, expect_cred] at hS
    have e₂ : (bigSep (S \ T) fun d => (Rd m).payload (creditCell c) 0 d) = bigSep (S \ T) (credPay (F := F) c) :=
      bigSep_congr fun d _ => by rw [payload_cell, pay_cred]
    ihave #HS := (Entails.of_eq e₂) $$ HS
    ihave #Hall := (credPay_union hS.1) $$ [HT HS]
    · isplitr <;> iassumption
    iapply Hk
    isplitl [HO]; · (iexists _; iexact HO)
    isplitl [Ha]
    · iexists S; isplitr; · (ipureintro; exact hS.2)
      isplitl [Ha]; · iexact Ha
      iexact Hall
    · iapply (released_of (exists_late hS.2.1 hS.2.2)); iexact Hall
  · obtain rfl : k = 23 := by omega
    rw [if_neg (show ¬ 23 + 1 < 24 by omega)]
    iapply (Rounds.wp_wait_rest_token 𝒱₀ ER (Rd m) (c : Thread nD τ) none (κ := κ) (wpE_semWait_eq 𝒱₀ (c : Thread nD τ) none Set.univ) (Set.mem_univ _)
      23 (O := owed c sn cs) (W := W) (R := 0) (m := 23) (T := T) (by rw [expect_cred])) $$ [HO Hc Ha]
    · isplitr; · iexact Hi
      isplitl [Hc]; · iexact Hc
      isplitl [HO]; · iexact HO
      isplitr; · (iapply hl; iexact HR)
      iexact Ha
    iintro ⟨HO, Ha, -, HS⟩
    have e₂ : (bigSep ((Rd m).duties (creditCell c) 0 \ T) fun d => (Rd m).payload (creditCell c) 0 d) = bigSep (Finset.range 24 \ T) (credPay (F := F) c) := by
      rw [duties_cell, dut_cred]
      exact bigSep_congr fun d _ => by rw [payload_cell, pay_cred]
    ihave #HS := (Entails.of_eq e₂) $$ HS
    ihave #Hall := (credPay_union hT.1) $$ [HT HS]
    · isplitr <;> iassumption
    iapply Hk
    isplitl [HO]; · (iexists _; iexact HO)
    isplitl [Ha]; · iexact Ha
    iapply (released_of (c := c) ⟨23, Finset.mem_range.mpr (by omega), le_refl 23⟩); iexact Hall

/-- The wait for a credit gives the device its right neighbour's slot to send to. -/
theorem st_wait_credit {Q : α → sProp 𝕄} (h : cw < 24) (h₀ : sn ≤ cw + 4) (h₁ : sn < 28 → cw < sn) (h₂ : cs < 24 → cw < cs) {z : Int} (hz : z = ((1 : ℕ) : Int)) {K : PUnit → Prog (TpuEff nD τ sig (Elt F) Λ₀ (c : Thread nD τ).2) α}
    (hK : St m c xs xw rc (cw + 1) sn sw cs os ow ini fs cur ⊢ WP c (K ⟨⟩) Q) :
    St m c xs xw rc cw sn sw cs os ow ini fs cur ⊢ WP c (.op (.semWait creditS z) K) Q := by
  subst hz
  unfold St DQ at hK ⊢
  iintro ⟨#HR, HOW, HX, HRQ, HS, ⟨HD1, HD2, HD3⟩, H⟩
  ihave HD1 := pool_pop (F := F) h (dTodo c) $$ HD1
  unfold dTodo
  icases HD1 with ⟨⟨Hw, Hc⟩, HD1⟩
  iapply (credit_wait (m := m) (sn := sn) (cs := cs) h h₁ h₂) $$ [HOW Hc HD3]
  · isplitr; · iexact HR
    isplitl [HOW]; · iexact HOW
    isplitl [Hc] <;> iassumption
  iintro ⟨HOW, HD3, #Hrel⟩
  ihave Hsl := rec_slot m (nxt c) h $$ HR
  icases Hsl with ⟨%ι, #Hsl⟩
  imod (Release.slot_take (ES : Emb UK 𝕄) (Set.mem_univ ι) 1) $$ [Hw] with Hs
  · isplitr; · iexact Hsl
    isplitr; · iexact Hrel
    iexact Hw
  iapply hK
  isplitr; · iexact HR
  isplitl [HOW]; · iexact HOW
  isplitl [HX]; · iexact HX
  isplitl [HRQ]; · iexact HRQ
  isplitl [HS]; · iexact HS
  isplitl [HD1 HD2 HD3 Hs]
  · isplitl [HD1]; · iexact HD1
    isplitr [HD3]; rotate_left 1; (· iexact HD3)
    iapply (pool_push (F := F) h₀ (dSlot c))
    isplitl [Hs]
    · unfold dSlot
      rw [commM_congr (show (cw + 4) % 4 = cw % 4 by omega) (show ((cw + 4) / 4 + 1) % 2 = (cw / 4) % 2 by omega)]
      iexact Hs
    · iexact HD2
  iexact H

/-! ## The copies of the result -/

/-- A copy of a tile of the result starts, -/
theorem st_enq_out {Q : α → sProp 𝕄} (h : os < 4) (h₂ : ow ≤ os) {v : Blk F} (hv : v = fin m c os) {hsrc hdst hsem} {K : PUnit → Prog (TpuEff nD τ sig (Elt F) Λ₀ (c : Thread nD τ).2) α}
    (hK : St m c xs xw rc cw sn sw cs (os + 1) ow ini fs none ⊢ WP c (K ⟨⟩) Q) :
    St m c xs xw rc cw sn sw cs os ow ini fs (some (24 + os, v)) ⊢ WP c (.op (.enqueueDma (commM (24 + os) ((24 + os) / 4))
      (.here (outM os)) (.dma (outS os)) hsrc hdst hsem) K) Q := by
  subst hv
  unfold St CU OQ at hK ⊢
  iintro ⟨#HR, HOW, HX, HRQ, HS, HD, HC, HO, HW, HF, HU⟩
  ihave HO := que_start (F := F) h h₂ (oTodo c) (oRun c) (oDone m c) $$ HO
  icases HO with ⟨Ht, Hback⟩
  unfold oTodo
  icases Ht with ⟨Ht, Ha, Hd⟩
  have hp : iprop(own c (outM os) (fin m c os) ∗ own c (commM (24 + os) ((24 + os) / 4)) (fin m c os)) ⊢ pay m c 0 (.dma (outS os)) := by
    rw [pay_out m c h]; unfold outPay
    rw [commM_congr (show (24 + os) % 4 = os % 4 by omega) (show ((24 + os) / 4) % 2 = 0 % 2 by omega)]
    iintro ⟨H1, H2⟩
    isplitl [H1]; · iexact H1
    unfold anyOwn; iexists _; iexact H2
  iapply (dma_copy m c (outS os) (outS_pos h) (v := fin m c os) (amount_out os (outS os)) hp) $$ [Ht HU Hd]
  · isplitr; · iexact HR
    isplitl [HU]; · iexact HU
    isplitl [Hd]; · iexact Hd
    iexact Ht
  iintro Hc
  iapply hK
  isplitr; · iexact HR
  isplitl [HOW]; · iexact HOW
  isplitl [HX]; · iexact HX
  isplitl [HRQ]; · iexact HRQ
  isplitl [HS]; · iexact HS
  isplitl [HD]; · iexact HD
  isplitl [HC]; · iexact HC
  isplitl [Hback Hc Ha]
  · iapply Hback; unfold oRun; isplitl [Hc] <;> iassumption
  isplitl [HW]; · iexact HW
  isplitl [HF]; · iexact HF
  iempintro

/-- and is waited for. -/
theorem st_wait_out {Q : α → sProp 𝕄} (h : ow < os) (h4 : ow < 4) {sp' : Space} {s' : Shape} {e' : EltTy} {src : Memref sig .tc sp' s' e'} {hsrc hdst} {K : PUnit → Prog (TpuEff nD τ sig (Elt F) Λ₀ (c : Thread nD τ).2) α}
    (hK : St m c xs xw rc cw sn sw cs os (ow + 1) ini fs cur ⊢ WP c (K ⟨⟩) Q) :
    St m c xs xw rc cw sn sw cs os ow ini fs cur ⊢ WP c (.op (.waitDma2 (outS ow) src (outM ow) hsrc hdst) K) Q := by
  unfold St OQ at hK ⊢
  iintro ⟨#HR, HOW, HX, HRQ, HS, HD, HC, HO, H⟩
  ihave HO := que_finish (F := F) h (oTodo c) (oRun c) (oDone m c) $$ HO
  icases HO with ⟨Ht, Hback⟩
  unfold oRun
  icases Ht with ⟨Hc, Ha⟩
  iapply (dma_wait m c (sn := sn) (cs := cs) (outS ow) (outS_pos h4) (w := .waitDma2 (outS ow) src (outM ow) hsrc hdst) (wait_spec c _ (amount_out ow (outS ow)))
    (fun _ => by rw [lvS_out h4]; omega) (fun _ => by rw [lvS_out h4]; omega)) $$ [HOW Hc Ha]
  · isplitr; · iexact HR
    isplitl [HOW]; · iexact HOW
    isplitl [Hc]; · iexact Hc
    iexact Ha
  rw [pay_out m c h4]; unfold outPay
  iintro ⟨HOW, Ha, Hs, Hx⟩
  iapply hK
  isplitr; · iexact HR
  isplitl [HOW]; · iexact HOW
  isplitl [HX]; · iexact HX
  isplitl [HRQ]; · iexact HRQ
  isplitl [HS]; · iexact HS
  isplitl [HD]; · iexact HD
  isplitl [HC]; · iexact HC
  isplitl [Hback Ha Hs Hx]
  · iapply Hback; unfold oDone
    isplitl [Ha]; · iexact Ha
    isplitl [Hs] <;> iassumption
  iexact H

end Cert.RingProof
-- ==== Proof.Barrier.lean ====
/-
  The barrier before the ring, and what the kernel writes, told by the schedule's names.
-/
module

public import proofs.«01_k».proof.Proof.Credit

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable {m : (ℓ : Loc nD τ sig) → Buf (Elt F) ℓ} {c : Dev nD} {α : Type}

/-! ## The barrier -/

/-- Everything of the ring's first state that the barrier does not concern. -/
def Back (m : (ℓ : Loc nD τ sig) → Buf (Elt F) ℓ) (c : Dev nD) : sProp 𝕄 :=
  iprop(XQ m c 0 0 ∗ RQ c 0 ∗ SQ c 0 0 ∗ (pool 0 24 (dTodo c) ∗ credAt c 0) ∗ CQ c 0 ∗ OQ m c 0 0 ∗ WS m c ∗ FQ c 0 0 0)

/-- Before the barrier: both neighbours are owed a unit, and the left one the slots it sends to first. -/
def Pre₀ (m : (ℓ : Loc nD τ sig) → Buf (Elt F) ℓ) (c : Dev nD) : sProp 𝕄 :=
  iprop(Rec m ∗ (∃ W, owes (c : Thread nD τ) (O₀ c) W) ∗ dutyTok (ER : Emb UB 𝕄) (barCell (prv c)) 0 1 ∗ bigSep (Finset.range 4) (fun t => anyOwn c (commM t 1))
    ∗ dutyTok (ER : Emb UB 𝕄) (barCell (nxt c)) 0 0 ∗ cred (tallyAt (barCell c) 0 2) ∗ atPos (ER : Emb UB 𝕄) (barCell c) 0 ∅ 0 ∗ Back m c)
/-- The left neighbour is told, -/
def Pre₁ (m : (ℓ : Loc nD τ sig) → Buf (Elt F) ℓ) (c : Dev nD) : sProp 𝕄 :=
  iprop(Rec m ∗ (∃ W, owes (c : Thread nD τ) (O₁ c) W)
    ∗ dutyTok (ER : Emb UB 𝕄) (barCell (nxt c)) 0 0 ∗ cred (tallyAt (barCell c) 0 2) ∗ atPos (ER : Emb UB 𝕄) (barCell c) 0 ∅ 0 ∗ Back m c)
/-- and the right one. -/
def Pre₂ (m : (ℓ : Loc nD τ sig) → Buf (Elt F) ℓ) (c : Dev nD) : sProp 𝕄 :=
  iprop(Rec m ∗ OW c 0 0 ∗ cred (tallyAt (barCell c) 0 2) ∗ atPos (ER : Emb UB 𝕄) (barCell c) 0 ∅ 0 ∗ Back m c)

/-- The signal to the left neighbour. -/
theorem bar_left {Q : α → sProp 𝕄} {n : Dev nD} (hn : n.val = (c.val + 7) % 8) {z : Int} (hz : z = ((1 : ℕ) : Int)) {K : PUnit → Prog (TpuEff nD τ sig (Elt F) Λ₀ (c : Thread nD τ).2) α}
    (hK : Pre₁ m c ⊢ WP c (K ⟨⟩) Q) : Pre₀ m c ⊢ WP c (.op (.semSignal (Dev.tc n : Thread nD τ) barS z) K) Q := by
  obtain rfl : n = prv c := Fin.ext hn
  subst hz
  unfold Pre₀
  iintro ⟨#HR, ⟨%W, HO⟩, Ht, Hs, H⟩
  ihave Hcell := rec_bar m (prv c) $$ HR
  icases Hcell with ⟨⟨%κ, #Hi⟩, #Hr⟩
  iapply (Rounds.wp_signal 𝒱₀ ER (Rd m) (c : Thread nD τ) none (dst := (prv c : Thread nD τ)) (κ := κ) (r := 0) (d := 1) (k' := 1)
    (by rw [duties_cell, dut_bar]; decide) rfl 0 (O₁ c) rfl (W := W)) $$ [HO Ht Hs]
  · isplitr; · iexact Hi
    isplitl [HO]; · iexact HO
    isplitl [Ht]; · iexact Ht
    isplitl [Hs]
    · rw [payload_cell, pay_bar]; unfold barPay; rw [if_pos rfl, nxt_prv]; iexact Hs
    · iexact Hr
  iintro HO
  iapply hK
  unfold Pre₁
  isplitr; · iexact HR
  isplitl [HO]; · (iexists W; iexact HO)
  iexact H

/-- The signal to the right neighbour. -/
theorem bar_right {Q : α → sProp 𝕄} {n : Dev nD} (hn : n.val = (c.val + 1) % 8) {z : Int} (hz : z = ((1 : ℕ) : Int)) {K : PUnit → Prog (TpuEff nD τ sig (Elt F) Λ₀ (c : Thread nD τ).2) α}
    (hK : Pre₂ m c ⊢ WP c (K ⟨⟩) Q) : Pre₁ m c ⊢ WP c (.op (.semSignal (Dev.tc n : Thread nD τ) barS z) K) Q := by
  obtain rfl : n = nxt c := Fin.ext hn
  subst hz
  unfold Pre₁
  iintro ⟨#HR, ⟨%W, HO⟩, Ht, H⟩
  ihave Hcell := rec_bar m (nxt c) $$ HR
  icases Hcell with ⟨⟨%κ, #Hi⟩, #Hr⟩
  iapply (Rounds.wp_signal 𝒱₀ ER (Rd m) (c : Thread nD τ) none (dst := (nxt c : Thread nD τ)) (κ := κ) (r := 0) (d := 0) (k' := 1)
    (by rw [duties_cell, dut_bar]; decide) rfl 0 (owed c 0 0) rfl (W := W)) $$ [HO Ht]
  · isplitr; · iexact Hi
    isplitl [HO]; · iexact HO
    isplitl [Ht]; · iexact Ht
    isplitr
    · rw [payload_cell, pay_bar]; unfold barPay; rw [if_neg (by decide)]; iempintro
    · iexact Hr
  iintro HO
  iapply hK
  unfold Pre₂ OW
  isplitr; · iexact HR
  isplitl [HO]; · (iexists W; iexact HO)
  iexact H

/-- What the barrier's round hands over: the right neighbour's four slots. -/
theorem bar_rest : bigSep ((Rd m).duties (barCell c) 0 \ ∅) (fun d => (Rd m).payload (barCell c) 0 d) ⊢ (pool 0 4 (dSlot (F := F) c) : sProp 𝕄) := by
  rw [Finset.sdiff_empty, duties_cell, dut_bar]
  refine (bigSep_elim (Φ := fun d => (Rd m).payload (barCell c) 0 d) (show 1 ∈ Finset.range 2 by decide)).trans ?_
  rw [payload_cell, pay_bar]
  unfold barPay pool
  rw [if_pos rfl, show Finset.Ico 0 4 = Finset.range 4 from by decide]
  refine Entails.of_eq (bigSep_congr fun g hg => ?_)
  unfold dSlot
  rw [Finset.mem_range] at hg
  rw [commM_congr (t := g) rfl (show 1 % 2 = (g / 4 + 1) % 2 by omega)]

/-- The barrier's wait: the ring starts; the barrier's cell is kept for the end. -/
theorem bar_wait {Q : α → sProp 𝕄} {z : Int} (hz : z = ((2 : ℕ) : Int)) {K : PUnit → Prog (TpuEff nD τ sig (Elt F) Λ₀ (c : Thread nD τ).2) α}
    (hK : St m c 0 0 0 0 0 0 0 0 0 0 0 none ⊢ WP c (K ⟨⟩) (fun a => iprop(atPos (ER : Emb UB 𝕄) (barCell c) 1 ∅ 0 -∗ Q a))) :
    Pre₂ m c ⊢ WP c (.op (.semWait barS z) K) Q := by
  subst hz
  unfold Pre₂ Back OW
  iintro ⟨#HR, ⟨%W, HO⟩, Hc, Ha, HX, HRQ, HS, ⟨HD1, HD3⟩, H⟩
  ihave Hcell := rec_bar m c $$ HR
  icases Hcell with ⟨⟨%κ, #Hi⟩, #Hr⟩
  have hl : Rec m ⊢ (MayWait (c : Thread nD τ) (.reg barS) 0 (owed c 0 0) : sProp 𝕄) :=
    (rec_lev m).trans (mayWait c (.reg barS) 0 (by omega) (fun _ => by rw [lvS_bar]; omega) (fun _ => by rw [lvS_bar]; omega))
  iapply (Rounds.wp_wait_rest_token 𝒱₀ ER (Rd m) (c : Thread nD τ) none (κ := κ) (wpE_semWait_eq 𝒱₀ (c : Thread nD τ) none Set.univ) (Set.mem_univ _)
      0 (O := owed c 0 0) (W := W) (R := 0) (m := 0) (T := ∅) (by rw [expect_bar])) $$ [HO Hc Ha]
  · isplitr; · iexact Hi
    isplitl [Hc]; · iexact Hc
    isplitl [HO]; · iexact HO
    isplitr; · (iapply hl; iexact HR)
    iexact Ha
  iintro ⟨HO, Ha, -, Hp⟩
  ihave HD2 := bar_rest $$ Hp
  have hw : WP c (K ⟨⟩) (fun a => iprop(atPos (ER : Emb UB 𝕄) (barCell c) 1 ∅ 0 -∗ Q a))
      ⊢ iprop((∀ a, (atPos (ER : Emb UB 𝕄) (barCell c) 1 ∅ 0 -∗ Q a) -∗ Q a) -∗ WP c (K ⟨⟩) Q) :=
    wp_wand frame _ _
  iapply (hK.trans hw) $$ [HO HX HRQ HS HD1 HD2 HD3 H]
  · unfold St DQ OW CU
    isplitr; · iexact HR
    isplitl [HO]; · (iexists _; iexact HO)
    isplitl [HX]; · iexact HX
    isplitl [HRQ]; · iexact HRQ
    isplitl [HS]; · iexact HS
    isplitl [HD1 HD2 HD3]
    · isplitl [HD1]; · iexact HD1
      isplitl [HD2] <;> iassumption
    icases H with ⟨HC, HO, HW, HF⟩
    isplitl [HC]; · iexact HC
    isplitl [HO]; · iexact HO
    isplitl [HW]; · iexact HW
    isplitl [HF]; · iexact HF
    iempintro
  iintro %a Hq
  iapply Hq; iexact Ha

/-! ## Steps without an effect -/

/-- The kernel asks which device it runs on. -/
theorem device {Q : α → sProp 𝕄} {P : sProp 𝕄} {K : Dev nD → Prog (TpuEff nD τ sig (Elt F) Λ₀ (c : Thread nD τ).2) α} (hK : P ⊢ WP c (K c) Q) : P ⊢ WP c (.op .deviceId K) Q := by
  refine hK.trans ?_
  unfold WP; rw [wp_deviceId]

/-- A program that is over. -/
theorem done {Q : α → sProp 𝕄} {P : sProp 𝕄} {a : α} (hK : P ⊢ Q a) : P ⊢ WP c (.ret a) Q := by
  unfold WP; rw [wp_ret]; refine hK.trans ?_; iintro H; imodintro; iexact H

/-- The first round's product of a tile, -/
theorem prod_eq (t : ℕ) : lowC (shapeCast S1x1x1024x1024 (matmul dot_S1024x1024_S1024x1024_S1024x1024_1_0_0_1_n_n none
      (shapeCast S1024x1024 (liftX (Xc m c 0)) shapeCasts_S1x1024x1024_S1024x1024) (shapeCast S1024x1024 (wT m c t) shapeCasts_S1024x1024_S1024x1024)
      (constant S1024x1024 .f32 0x00000000#32)) shapeCasts_S1024x1024_S1x1x1024x1024) = part m c 0 t := by
  rw [low_liftX]; exact lowC_liftC _

/-- the later rounds' sum, -/
theorem sum_eq (s t : ℕ) : lowC (shapeCast S1x1x1024x1024 (addf (shapeCast S1024x1024 (liftC (part m (prv c) s t)) shapeCasts_S1x1x1024x1024_S1024x1024)
      (matmul dot_S1024x1024_S1024x1024_S1024x1024_1_0_0_1_n_n none
      (shapeCast S1024x1024 (liftX (Xc m c (s + 1))) shapeCasts_S1x1024x1024_S1024x1024) (shapeCast S1024x1024 (wT m c t) shapeCasts_S1024x1024_S1024x1024)
      (constant S1024x1024 .f32 0x00000000#32))) shapeCasts_S1024x1024_S1x1x1024x1024) = part m c (s + 1) t := by
  rw [low_liftX, show shapeCast S1024x1024 (liftC (part m (prv c) s t)) shapeCasts_S1x1x1024x1024_S1024x1024 = part m (prv c) s t from lowC_liftC _]
  exact lowC_liftC _

/-- and the result's tile. -/
theorem last_eq (t : ℕ) : lowC (shapeCast S1x1x1024x1024 (maximumf (addf (shapeCast S1024x1024 (liftC (part m (prv c) 6 t)) shapeCasts_S1x1x1024x1024_S1024x1024)
      (matmul dot_S1024x1024_S1024x1024_S1024x1024_1_0_0_1_n_n none
      (shapeCast S1024x1024 (liftX (Xc m c 7)) shapeCasts_S1x1024x1024_S1024x1024) (shapeCast S1024x1024 (wT m c t) shapeCasts_S1024x1024_S1024x1024)
      (constant S1024x1024 .f32 0x00000000#32))) (broadcast S1024x1024 (Scalar.ofBits .f32 0x00000000#32))) shapeCasts_S1024x1024_S1x1x1024x1024) = fin m c t := by
  rw [low_liftX, show shapeCast S1024x1024 (liftC (part m (prv c) 6 t)) shapeCasts_S1x1x1024x1024_S1024x1024 = part m (prv c) 6 t from lowC_liftC _]
  exact lowC_liftC _

/-- The row chunk that copy `i` reads, as the kernel finds it: before the last copy, -/
theorem off1 (i : ℕ) (h : i < 7) : k0_off1 c (BitVec.ofNat 32 (7 - i)) = ![1024 * ((c.val + 7 - i) % 8), 0] := by
  have e := k0_off1_eq c ⟨6 - i, by omega⟩
  rw [show 7 - i = 1 + (6 - i) by omega, show c.val + 7 - i = c.val + (6 - i) + 1 by omega]
  exact e
/-- and in the last. -/
theorem off2 : k0_off2 c = ![1024 * ((c.val + 7 - 7) % 8), 0] := by
  rw [k0_off2_eq, show (c.val + 7 - 7) % 8 = c.val by have := c.isLt; simp only [nD] at this; omega]

end Cert.RingProof
-- ==== Proof.Launch.lean ====
/-
  The launch: the invariants are made, everything is dealt, and a device has what its kernel starts with.
-/
module

public import proofs.«01_k».proof.Proof.Deal
public import proofs.«01_k».proof.Proof.Barrier

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (m : (ℓ : Loc nD τ sig) → Buf (Elt F) ℓ) (c : Dev nD)

/-! ## The semaphores of the launch -/

set_option backward.proofsInPublic true in
/-- The kernel's own semaphores: all of the row but the barrier. -/
def osem (n : Fin 69) : SemLoc sig := csem n.succ

set_option maxRecDepth 20000 in
theorem ownSemFacts : Pipeline.OwnSemFacts cfg0.spec osem := by decide

/-- The barrier semaphore is the one that the launch does not scope; -/
theorem unscopedSems0_eq : (unscopedSems0 c : sProp 𝕄) = semVal (barCell c) 0 := by
  unfold unscopedSems0; rw [bigSep_eq_bigSepL_of_eq [SemLoc.reg barS] (by decide) (by decide)]; rfl

/-- with the kernel's own it is the row. -/
theorem sems0_eq : (bigSep Finset.univ fun k : Fin 70 => semVal (kcell (c, k)) 0 : sProp 𝕄)
    = iprop(semVal (barCell c) 0 ∗ Pipeline.ownSems0 (Ix := ℕ) (Name := ℕ) (U := UU) (Lvl := ℕ) (Val := Elt F) (τ := τ) osem c) := by
  unfold Pipeline.ownSems0
  rw [Fin.univ_succ, Finset.cons_eq_insert, bigSep_insert (by simp [Fin.succ_ne_zero]), bigSep_map,
    show kcell (c, 0) = barCell c from by unfold kcell; rw [csem_bar]]
  rfl

/-! ## The global step -/

/-- Every cell's invariant, and that its round 0 is reached. -/
def Cells : sProp 𝕄 :=
  bigSep (Finset.univ : Finset (Dev nD × Fin 70)) fun p => iprop((∃ κ, cellInv ER (Rd m) κ (kcell p)) ∗ reached (ER : Emb UB 𝕄) (kcell p) 0)
instance Cells_persistent : BI.Persistent (Cells m) := by unfold Cells; infer_instance

/-- What device `c` starts with. -/
def G' : sProp 𝕄 :=
  iprop((Cells m ∗ Slots) ∗ (bigSep Finset.univ fun k : Fin 70 => atPos (ER : Emb UB 𝕄) (kcell (c, k)) 0 ∅ 0) ∗ payToks c ∗ readers c ∗ writers (nxt c))

/-- One device's cells get their invariants. -/
theorem cells_made : iprop(Pipeline.ownSems0 (Ix := ℕ) (Name := ℕ) (U := UU) (Lvl := ℕ) (Val := Elt F) (τ := τ) osem c ∗ unscopedSems0 c ∗ G m c)
    ⊢ |={Set.univ}=> iprop((bigSep Finset.univ fun k : Fin 70 => iprop((∃ κ, cellInv ER (Rd m) κ (kcell (c, k))) ∗ reached (ER : Emb UB 𝕄) (kcell (c, k)) 0))
      ∗ (bigSep Finset.univ fun k : Fin 70 => atPos (ER : Emb UB 𝕄) (kcell (c, k)) 0 ∅ 0) ∗ toks c ∗ Slots ∗ readers c ∗ writers c) := by
  have e : iprop((bigSep Finset.univ fun k : Fin 70 => semVal (kcell (c, k)) 0) ∗ bigSep Finset.univ fun k : Fin 70 => roundState ER (Rd m) (kcell (c, k)) 0)
      ⊢ |={Set.univ}=> bigSep Finset.univ fun k : Fin 70 => iprop(∃ κ : ℕ, cellInv ER (Rd m) κ (kcell (c, k))) := by
    rw [← bigSep_sep']
    exact (bigSep_mono fun k _ => (Rounds.body_intro ER (Rd m) (kcell (c, k))).trans inv_alloc).trans (bigSep_fupd _ _)
  unfold G
  rw [unscopedSems0_eq, bigSep_sep']
  iintro ⟨Hos, Hus, Hst, Hr, Hrest⟩
  imod e $$ [Hos Hus Hst] with Hinv
  · isplitr [Hst]
    · iapply (Entails.of_eq (sems0_eq (F := F) c).symm)
      isplitl [Hus] <;> iassumption
    · iexact Hst
  imodintro
  isplitl [Hinv Hr]
  · isplitl [Hinv] <;> iassumption
  iexact Hrest

/-- Everything is dealt. -/
theorem dealt : (bigSep Finset.univ fun c : Dev nD => iprop((bigSep Finset.univ fun k : Fin 70 => iprop((∃ κ, cellInv ER (Rd m) κ (kcell (c, k))) ∗ reached (ER : Emb UB 𝕄) (kcell (c, k)) 0))
      ∗ (bigSep Finset.univ fun k : Fin 70 => atPos (ER : Emb UB 𝕄) (kcell (c, k)) 0 ∅ 0) ∗ toks c ∗ Slots ∗ readers c ∗ writers c))
    ⊢ bigSep Finset.univ (G' m) := by
  have eC : (bigSep Finset.univ fun c : Dev nD => bigSep Finset.univ fun k : Fin 70 => iprop((∃ κ, cellInv ER (Rd m) κ (kcell (c, k))) ∗ reached (ER : Emb UB 𝕄) (kcell (c, k)) 0))
      ⊢ bigSep (Finset.univ : Finset (Dev nD)) fun _ => Cells m := by
    rw [← bigSep_univ_prod (fun p : Dev nD × Fin 70 => iprop((∃ κ, cellInv ER (Rd m) κ (kcell p)) ∗ reached (ER : Emb UB 𝕄) (kcell p) 0))]
    exact BI.bigSep_of_persistent Finset.univ (Cells m)
  have eW : (bigSep Finset.univ fun c : Dev nD => (writers c : sProp 𝕄)) = bigSep Finset.univ fun c : Dev nD => writers (nxt c) :=
    bigSep_univ_equiv ring (fun c : Dev nD => (writers c : sProp 𝕄))
  unfold G'
  rw [bigSep_sep', bigSep_sep', bigSep_sep', bigSep_sep', bigSep_sep', bigSep_sep', bigSep_sep', bigSep_sep', bigSep_sep', bigSep_sep', eW]
  iintro ⟨HC, Hat, Ht, HS, Hr, Hw⟩
  isplitl [HC HS]
  · isplitl [HC]
    · iapply eC; iexact HC
    · iexact HS
  isplitl [Hat]; · iexact Hat
  isplitl [Ht]; · iapply (toks_around (F := F)); iexact Ht
  isplitl [Hr] <;> iassumption

theorem glob : (bigSep Finset.univ fun c => iprop(Pipeline.ownSems0 (Ix := ℕ) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => cells_made m c).trans (bigSep_fupd _ _)).trans (BI.fupd_mono (dealt m))

/-! ## The launch credit -/

/-- The credits that device `c` starts with: both neighbours' units at its barrier, its receives, its credits. -/
def creds : sProp 𝕄 :=
  iprop(cred (tallyAt (barCell c) 0 2) ∗ pool 0 28 (fun g => cred (tallyAt (recvCell c g) 0 N)) ∗ pool 0 24 (fun k => cred (tallyAt (creditCell c) k 1)))

theorem creds_intro : (Pipeline.launchCred O₀ c : sProp 𝕄) ⊢ creds c := by
  have e : (Pipeline.launchCred O₀ c : sProp 𝕄)
      = iprop(((pool 0 28 (fun g => Pipeline.launchCred (fun d => tallyAt (recvCell (nxt d) g) 0 N) c)
          ∗ pool 0 24 (fun k => Pipeline.launchCred (fun d => tallyAt (creditCell (prv d)) k 1) c))
          ∗ Pipeline.launchCred (fun d => tallyAt (barCell (nxt d)) 0 1) c) ∗ Pipeline.launchCred (fun d => tallyAt (barCell (prv d)) 0 1) c) := by
    unfold pool
    rw [← Pipeline.launchCred_sum, ← Pipeline.launchCred_sum, ← Pipeline.launchCred_add, ← Pipeline.launchCred_add, ← Pipeline.launchCred_add]
    rfl
  have e2 : (tallyAt (barCell c) 0 2 : CellTallies nD τ sig ℕ) = tallyAt (barCell c) 0 1 + tallyAt (barCell c) 0 1 := by
    funext g
    refine Finsupp.ext fun u => ?_
    rw [Pi.add_apply, Finsupp.add_apply, tallyAt_apply, tallyAt_apply]
    split <;> rfl
  rw [e]
  unfold creds
  rw [e2]
  have hr (g : ℕ) : (Pipeline.launchCred (fun d => tallyAt (recvCell (nxt d) g) 0 N) c : sProp 𝕄) ⊢ cred (tallyAt (recvCell c g) 0 N) :=
    Pipeline.launchCred_tallyAt _ nxt prv nxt_prv prv_nxt 0 N c
  have hk (k : ℕ) : (Pipeline.launchCred (fun d => tallyAt (creditCell (prv d)) k 1) c : sProp 𝕄) ⊢ cred (tallyAt (creditCell c) k 1) :=
    Pipeline.launchCred_tallyAt _ prv nxt prv_nxt nxt_prv k 1 c
  have h₁ : (Pipeline.launchCred (fun d => tallyAt (barCell (nxt d)) 0 1) c : sProp 𝕄) ⊢ cred (tallyAt (barCell c) 0 1) :=
    Pipeline.launchCred_tallyAt _ nxt prv nxt_prv prv_nxt 0 1 c
  have h₂ : (Pipeline.launchCred (fun d => tallyAt (barCell (prv d)) 0 1) c : sProp 𝕄) ⊢ cred (tallyAt (barCell c) 0 1) :=
    Pipeline.launchCred_tallyAt _ prv nxt prv_nxt nxt_prv 0 1 c
  iintro ⟨⟨⟨Hr, Hk⟩, H1⟩, H2⟩
  isplitl [H1 H2]
  · iapply (cred_add _ _).2
    isplitl [H1]
    · iapply h₁; iexact H1
    · iapply h₂; iexact H2
  isplitl [Hr]
  · iapply (pool_mono fun g _ _ => hr g); iexact Hr
  · iapply (pool_mono fun g _ _ => hk g); iexact Hk

end Cert.RingProof
-- ==== Proof.Close.lean ====
/-
  The end of a device's run: every copy landed, every unit paid and taken, so the semaphores can be read off as
  zero and the buffers are whole again.
-/
module

public import proofs.«01_k».proof.Proof.Row
public import proofs.«01_k».proof.Proof.Steps

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable {m : (ℓ : Loc nD τ sig) → Buf (Elt F) ℓ} {c : Dev nD}

/-- What a device holds when its kernel is done: `x` as it was, the result, the two scratch buffers and its semaphores
    at zero. -/
def Φ₁ (m : (ℓ : Loc nD τ sig) → Buf (Elt F) ℓ) (c : Dev nD) : sProp 𝕄 :=
  iprop((((c : Thread nD τ).loc main_arg0) ↦{fullShare} m ((c : Thread nD τ).loc main_arg0)) ∗ (((c : Thread nD τ).loc main_v1) ↦{fullShare} OUT m c)
    ∗ (∃ f, ((c : Thread nD τ).loc cc0_scratch0) ↦{fullShare} f) ∗ (∃ f, ((c : Thread nD τ).loc cc0_scratch1) ↦{fullShare} f)
    ∗ bigSep Finset.univ fun k : Fin 70 => semVal (kcell (c, k)) 0)

/-- A finished cell is closed. -/
theorem close_cell (p : Dev nD × Fin 70) : iprop(Rec m ∗ atPos (ER : Emb UB 𝕄) (kcell p) 1 ∅ 0) ⊢ |={Set.univ}=> semVal (kcell p) 0 := by
  iintro ⟨#HR, Ha⟩
  ihave Hcell := rec_cell m p $$ HR
  icases Hcell with ⟨⟨%κ, #Hi⟩, -⟩
  iapply (Rounds.cell_close ER (Rd m) (Set.mem_univ κ) (fun h => h) (R := 0 + 1) (duties_later m (kcell p)))
  isplitr; · iexact Hi
  iexact Ha

/-- All of a device's cells are. -/
theorem close_cells : iprop(Rec m ∗ bigSep Finset.univ fun k : Fin 70 => atPos (ER : Emb UB 𝕄) (kcell (c, k)) 1 ∅ 0)
    ⊢ |={Set.univ}=> bigSep Finset.univ fun k : Fin 70 => semVal (kcell (c, k)) 0 := by
  have e : iprop(Rec m ∗ bigSep Finset.univ fun k : Fin 70 => atPos (ER : Emb UB 𝕄) (kcell (c, k)) 1 ∅ 0)
      ⊢ bigSep Finset.univ fun k : Fin 70 => iprop(Rec m ∗ atPos (ER : Emb UB 𝕄) (kcell (c, k)) 1 ∅ 0) := by
    rw [bigSep_sep']
    exact Laws.sep_mono (BI.bigSep_of_persistent Finset.univ (Rec m)) .rfl
  exact e.trans ((bigSep_mono fun k _ => close_cell (c, k)).trans (bigSep_fupd _ _))

/-- The eight slots of the communication buffer, four of them named as the last receives name them. -/
theorem slots_back : iprop(pool 0 4 (fun t => anyOwn c (commM t 0)) ∗ pool 0 4 (fun t => anyOwn c (commM (28 + t) ((28 + t) / 4))))
    ⊢ (iprop(∃ f, ((c : Thread nD τ).loc cc0_scratch0) ↦{fullShare} f) : sProp 𝕄) := by
  refine BI.Entails.trans ?_ (paste_comm (F := F) (c := c))
  rw [pool_cut (show 0 ≤ 4 by decide) (show 4 ≤ 8 by decide), show pool 4 8 (fun g => (anyOwn c (commM g (g / 4)) : sProp 𝕄)) = _ from pool_shift 0 4 4 _]
  refine Laws.sep_mono (Entails.of_eq (pool_congr fun t _ h => ?_)) (Entails.of_eq (pool_congr fun t _ h => ?_))
  · rw [commM_congr (t := t) rfl (show 0 % 2 = (t / 4) % 2 by omega)]
  · rw [commM_congr (show (28 + t) % 4 = (4 + t) % 4 by omega) (show ((28 + t) / 4) % 2 = ((4 + t) / 4) % 2 by omega)]

/-- The two slots of the row chunks' buffer, with the last two chunks. -/
theorem chunks_back : pool 8 10 (xSlot m c) ⊢ (iprop(∃ f, ((c : Thread nD τ).loc cc0_scratch1) ↦{fullShare} f) : sProp 𝕄) := by
  refine BI.Entails.trans ?_ (paste_xb (F := F) (c := c))
  rw [show pool 8 10 (xSlot m c) = _ from pool_shift 0 2 8 _]
  refine pool_mono fun i _ h => ?_
  unfold xSlot
  rw [if_neg (by omega), xbM_congr (show (8 + i) % 2 = i % 2 by omega)]
  exact any_own _ _

/-- The whole end. -/
theorem close : iprop(St m c 8 8 28 24 28 28 24 4 4 4 4 none ∗ atPos (ER : Emb UB 𝕄) (barCell c) 1 ∅ 0)
    ⊢ |={Set.univ}=> iprop(Φ₁ m c ∗ (∃ W, owes (c : Thread nD τ) 0 W) ∗ WS m c) := by
  unfold St XQ RQ SQ DQ OQ FQ OW que credAt xDone sDone oDone rDone
  rw [owed_last, if_neg (by decide : ¬ (24 < 24)), pool_sep (a := 0) (b := 8), pool_sep (a := 0) (b := 28), pool_sep (a := 0) (b := 4), pool_sep (a := 0) (b := 4)]
  iintro ⟨⟨#HR, HO, ⟨⟨-, -, HXa, HX⟩, Hxb⟩, ⟨-, HRa⟩, ⟨-, -, HSa, -⟩, ⟨-, -, HCa⟩, -, ⟨-, -, HOa, Hout, Hc0⟩, HW, ⟨-, -, Hc1⟩, -⟩, HB⟩
  imod (close_cells (m := m) (c := c)) $$ [HXa HRa HSa HCa HOa HB] with Hv
  · isplitr; · iexact HR
    iapply (Entails.of_eq (row c fun g => atPos (ER : Emb UB 𝕄) g 1 ∅ 0).symm)
    isplitl [HB]; · iexact HB
    isplitl [HSa]; · iexact HSa
    isplitl [HRa]; · iexact HRa
    isplitl [HXa]; · iexact HXa
    isplitl [HOa]; · iexact HOa
    iexact HCa
  imodintro
  isplitr [HO HW]
  · unfold Φ₁
    isplitl [HX]; · iapply (Entails.of_eq (x_chunks (m := m) (c := c)).symm); iexact HX
    isplitl [Hout]; · iapply (paste_out (m := m) (c := c)); iexact Hout
    isplitl [Hc0 Hc1]
    · iapply (slots_back (F := F) (c := c)); isplitl [Hc0] <;> iassumption
    isplitl [Hxb]; · iapply (chunks_back (m := m) (c := c)); iexact Hxb
    iexact Hv
  isplitl [HO] <;> iassumption

end Cert.RingProof
-- ==== Proof.Start.lean ====
/-
  The first state of a device's kernel, from what the launch deals it.
-/
module

public import proofs.«01_k».proof.Proof.Launch
public import proofs.«01_k».proof.Proof.Close

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable (m : (ℓ : Loc nD τ sig) → Buf (Elt F) ℓ) (c : Dev nD)

/-- What device `c` brings into its kernel: its share of the deal, the levels, its credits, its `x` and the result's
    buffer. -/
def start : sProp 𝕄 :=
  iprop(G' m c ∗ levAts L lv ∗ creds c ∗ (((c : Thread nD τ).loc main_arg0) ↦{fullShare} m ((c : Thread nD τ).loc main_arg0))
    ∗ (∃ f, ((c : Thread nD τ).loc main_v1) ↦{fullShare} f))

/-- With the two scratch buffers. -/
def Φ₀ : sProp 𝕄 :=
  iprop(start m c ∗ (∃ f, ((c : Thread nD τ).loc cc0_scratch0) ↦{fullShare} f) ∗ (∃ f, ((c : Thread nD τ).loc cc0_scratch1) ↦{fullShare} f))

theorem rec_intro : iprop((Cells m ∗ Slots) ∗ levAts L lv) ⊢ Rec m := by
  unfold Rec Cells Slots
  iintro ⟨⟨HC, HS⟩, HL⟩
  isplitl [HC]; · iexact HC
  isplitl [HS] <;> iassumption

/-- The slots' split: four to fill first, four to hand to the left neighbour. -/
theorem slots_out : (iprop(∃ f, ((c : Thread nD τ).loc cc0_scratch0) ↦{fullShare} f) : sProp 𝕄)
    ⊢ iprop(pool 0 4 (fun t => anyOwn c (commM t (t / 4))) ∗ bigSep (Finset.range 4) (fun t => anyOwn c (commM t 1))) := by
  refine (cut_comm (F := F) (c := c)).trans ?_
  rw [pool_cut (show 0 ≤ 4 by decide) (show 4 ≤ 8 by decide), show pool 4 8 (fun g => (anyOwn c (commM g (g / 4)) : sProp 𝕄)) = _ from pool_shift 0 4 4 _]
  refine Laws.sep_mono .rfl ?_
  rw [Finset.range_eq_Ico]
  refine Entails.of_eq (pool_congr (Q := fun t => anyOwn c (commM t 1)) fun t _ h => ?_)
  rw [commM_congr (show (4 + t) % 4 = t % 4 by omega) (show ((4 + t) / 4) % 2 = 1 % 2 by omega)]

/-- The two slots for row chunks are free. -/
theorem chunks_out : (iprop(∃ f, ((c : Thread nD τ).loc cc0_scratch1) ↦{fullShare} f) : sProp 𝕄) ⊢ pool 0 2 (xSlot m c) := by
  refine (cut_xb (F := F) (c := c)).trans (Entails.of_eq (pool_congr fun i _ h => ?_))
  unfold xSlot; rw [if_pos h]

/-- The readers' counts, as the sends hold them. -/
theorem rel_intro : (readers c : sProp 𝕄) ⊢ pool 0 28 (sRel c) := by
  rw [pool_cut (show 0 ≤ 24 by decide) (show 24 ≤ 28 by decide)]
  have e₁ : pool 0 24 (sRel c) = (readers c : sProp 𝕄) := by
    unfold readers; exact pool_congr fun g _ h => if_pos h
  have e₂ : (iprop(emp) : sProp 𝕄) ⊢ pool 24 28 (sRel c) := by
    rw [show pool 24 28 (sRel c) = pool 24 28 (fun _ => (iprop(emp) : sProp 𝕄)) from pool_congr fun g h _ => if_neg (by omega)]
    unfold pool
    exact BI.bigSep_of_persistent _ _
  rw [e₁]
  iintro H
  isplitl [H]; · iexact H
  iapply e₂; iempintro

theorem nothing {a : ℕ} (P : ℕ → sProp 𝕄) : (iprop(emp) : sProp 𝕄) ⊢ pool a a P := Entails.of_eq (pool_nil le_rfl P).symm

/-- No credit has been taken yet. -/
theorem credAt_zero : (atPos (ER : Emb UB 𝕄) (creditCell c) 0 ∅ 0 : sProp 𝕄) ⊢ credAt c 0 := by
  unfold credAt
  rw [if_pos (by decide)]
  iintro H
  iexists ∅
  isplitr
  · ipureintro
    exact ⟨Finset.empty_subset _, by rw [Finset.sdiff_empty, Finset.card_range]⟩
  isplitl [H]; · iexact H
  rw [bigSep_empty]; iempintro

/-- The first state. -/
theorem pre_intro : iprop(Φ₀ m c ∗ (∃ W, owes (c : Thread nD τ) (O₀ c) W) ∗ WS m c) ⊢ Pre₀ m c := by
  unfold Φ₀ start G' creds payToks
  rw [row c fun g => (atPos (ER : Emb UB 𝕄) g 0 ∅ 0 : sProp 𝕄), x_chunks]
  iintro ⟨⟨⟨⟨HR, ⟨HaB, HaS, HaR, HaX, HaO, HaC⟩, ⟨⟨Ht0, Ht1⟩, HtS, HtR, HtX, HtO, HtC⟩, Hrd, Hwr⟩, HL, ⟨HcB, HcR, HcC⟩, Hx, Hout⟩, Hs0, Hs1⟩, HO, HW⟩
  ihave Hs0 := slots_out (F := F) c $$ Hs0
  icases Hs0 with ⟨Hc0, Hc1⟩
  unfold Pre₀ Back XQ RQ SQ CQ OQ FQ que
  isplitl [HR HL]
  · iapply (rec_intro m); isplitl [HR] <;> iassumption
  isplitl [HO]; · iexact HO
  isplitl [Ht1]; · iexact Ht1
  isplitl [Hc1]; · iexact Hc1
  isplitl [Ht0]; · iexact Ht0
  isplitl [HcB]; · iexact HcB
  isplitl [HaB]; · iexact HaB
  isplitl [HtX HaX Hx Hs1]
  · isplitr [Hs1]
    · isplitl [HtX HaX Hx]
      · have e : iprop(pool 0 8 (fun i => dutyTok (ER : Emb UB 𝕄) (xCell c i) 0 0) ∗ pool 0 8 (fun i => atPos (ER : Emb UB 𝕄) (xCell c i) 0 ∅ 0) ∗ pool 0 8 (fun i => own c (xM c i) (Xc m c i)))
            ⊢ pool 0 8 (xTodo m c) := by
          rw [← pool_sep, ← pool_sep]; exact .rfl
        iapply e
        isplitl [HtX]; · iexact HtX
        isplitl [HaX] <;> iassumption
      isplitr
      · iapply (nothing (F := F)); iempintro
      · iapply (nothing (F := F)); iempintro
    · iapply (chunks_out m c); iexact Hs1
  isplitl [HcR HaR]
  · isplitl [HcR HaR]
    · have e : iprop(pool 0 28 (fun g => cred (tallyAt (recvCell c g) 0 N)) ∗ pool 0 28 (fun g => atPos (ER : Emb UB 𝕄) (recvCell c g) 0 ∅ 0)) ⊢ pool 0 28 (rTodo c) := by
        rw [← pool_sep]; exact .rfl
      iapply e
      isplitl [HcR] <;> iassumption
    · iapply (nothing (F := F)); iempintro
  isplitl [HtS HtR HaS Hrd]
  · isplitl [HtS HtR HaS Hrd]
    · have e : iprop(pool 0 28 (fun g => dutyTok (ER : Emb UB 𝕄) (sendCell c g) 0 0) ∗ pool 0 28 (fun g => dutyTok (ER : Emb UB 𝕄) (recvCell (nxt c) g) 0 0)
          ∗ pool 0 28 (fun g => atPos (ER : Emb UB 𝕄) (sendCell c g) 0 ∅ 0) ∗ pool 0 28 (sRel c)) ⊢ pool 0 28 (sTodo c) := by
        rw [← pool_sep, ← pool_sep, ← pool_sep]; exact .rfl
      iapply e
      isplitl [HtS]; · iexact HtS
      isplitl [HtR]; · iexact HtR
      isplitl [HaS]; · iexact HaS
      iapply (rel_intro (F := F) c); iexact Hrd
    isplitr
    · iapply (nothing (F := F)); iempintro
    · iapply (nothing (F := F)); iempintro
  isplitl [Hwr HcC HaC]
  · isplitl [Hwr HcC]
    · have e : (iprop(writers (nxt c) ∗ pool 0 24 (fun k => cred (tallyAt (creditCell c) k 1))) : sProp 𝕄) ⊢ pool 0 24 (dTodo c) := by
        unfold writers; rw [← pool_sep]; exact .rfl
      iapply e
      isplitl [Hwr] <;> iassumption
    · iapply (credAt_zero (F := F) c); iexact HaC
  isplitl [HtC]; · iexact HtC
  isplitl [HtO HaO Hout]
  · isplitl [HtO HaO Hout]
    · have e : iprop(pool 0 4 (fun t => dutyTok (ER : Emb UB 𝕄) (outCell c t) 0 0) ∗ pool 0 4 (fun t => atPos (ER : Emb UB 𝕄) (outCell c t) 0 ∅ 0) ∗ pool 0 4 (fun t => anyOwn c (outM t)))
          ⊢ pool 0 4 (oTodo c) := by
        rw [← pool_sep, ← pool_sep]; exact .rfl
      iapply e
      isplitl [HtO]; · iexact HtO
      isplitl [HaO]; · iexact HaO
      iapply (cut_out (F := F) (c := c)); iexact Hout
    isplitr
    · iapply (nothing (F := F)); iempintro
    · iapply (nothing (F := F)); iempintro
  isplitl [HW]; · iexact HW
  isplitl [Hc0]; · iexact Hc0
  isplitr
  · rw [pool_nil (by decide)]; iempintro
  · iapply (nothing (F := F)); iempintro

end Cert.RingProof
-- ==== Proof.Body.lean ====
/-
  The body of the kernel, walked through once.
-/
module

public import proofs.«01_k».proof.Proof.Barrier

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

variable {m : (ℓ : Loc nD τ sig) → Buf (Elt F) ℓ} {c : Dev nD} {α : Type}

attribute [local irreducible] wp St Pre₀ Pre₁ Pre₂

set_option maxHeartbeats 20000000 in
set_option maxRecDepth 10000 in
/-- The body takes a device from the state before the barrier to the state in which everything is done and waited for.
    One step per operation, in the order in which they are printed; the operation and the state tell which. -/
theorem body_run {Q : PUnit → sProp 𝕄}
    (hK : St m c 8 8 28 24 28 28 24 4 4 4 4 none ⊢ iprop(atPos (ER : Emb UB 𝕄) (barCell c) 1 ∅ 0 -∗ Q ⟨⟩)) :
    Pre₀ m c ⊢ WP c (cc0_body (Memref.whole main_arg0) (Memref.isWhole_whole _) (Memref.whole cc0_stg0_0) (Memref.isWhole_whole _) (Memref.whole main_v1) (Memref.isWhole_whole _)
      (Memref.whole cc0_scratch0) (Memref.isWhole_whole _) (Memref.whole cc0_scratch1) (Memref.isWhole_whole _) cc0_scratch2 cc0_scratch3 cc0_scratch4 cc0_scratch5 cc0_scratch6) Q := by
  conv => rhs; arg 2; whnf
  refine device ?_
  conv => rhs; arg 2; whnf
  refine bar_left (k0_dev1_eq c) rfl ?_
  conv => rhs; arg 2; whnf
  refine bar_right (k0_dev2_eq c) rfl ?_
  conv => rhs; arg 2; whnf
  refine bar_wait rfl ?_
  repeat (
    conv => lhs; simp only [Nat.reduceAdd, Nat.reduceDiv, Nat.reduceMod]
    conv => rhs; arg 2; whnf
    first
    | refine st_load_x (by decide) ?_
    | refine st_load_cur ?_
    | refine st_load_col 0 ?_
    | refine st_load_col 1 ?_
    | refine st_load_col 2 ?_
    | refine st_load_col 3 ?_
    | refine st_load_ini (by decide) (fun v => ?_)
    | refine st_load_fin (by decide) (fun v => ?_)
    | refine st_store_cur ?_
    | refine st_store_ini (by decide) ?_
    | refine st_store_fin (by decide) ?_
    | refine st_enq_x (by decide) (by decide) (by decide) (off1 _ (by decide)) ?_
    | refine st_enq_x (by decide) (by decide) (by decide) off2 ?_
    | refine st_send (by decide) (by decide) (by decide) (by first | exact prod_eq _ | exact sum_eq _ _) (by simp only [k0_dev1_eq, k0_dev2_eq, k0_dev3_eq, k0_dev4_eq, k0_dev5_eq, k0_dev6_eq, k0_dev7_eq, k0_dev8_eq, k0_dev9_eq, k0_dev10_eq, k0_dev11_eq, k0_dev12_eq, k0_dev13_eq, k0_dev14_eq, k0_dev15_eq, k0_dev16_eq, k0_dev17_eq, k0_dev18_eq, k0_dev19_eq, k0_dev20_eq, k0_dev21_eq, k0_dev22_eq, k0_dev23_eq, k0_dev24_eq, k0_dev25_eq, k0_dev26_eq, k0_dev27_eq, k0_dev28_eq, k0_dev29_eq, k0_dev30_eq, k0_dev31_eq, k0_dev32_eq, k0_dev33_eq, k0_dev34_eq, k0_dev35_eq, k0_dev36_eq, k0_dev37_eq, k0_dev38_eq, k0_dev39_eq, k0_dev40_eq, k0_dev41_eq, k0_dev42_eq, k0_dev43_eq, k0_dev44_eq, k0_dev45_eq, k0_dev46_eq, k0_dev47_eq, k0_dev48_eq, k0_dev49_eq, k0_dev50_eq, k0_dev51_eq, k0_dev52_eq, k0_dev53_eq, k0_dev54_eq]) ?_
    | refine st_enq_out (by decide) (by decide) (last_eq _) ?_
    | refine st_wait_x (by decide) (by decide) (by decide) ?_
    | refine st_wait_recv (by decide) (by decide) (by decide) ?_
    | refine st_wait_send (by decide) (by decide) ?_
    | refine st_wait_send_last (by decide) (by decide) (by decide) ?_
    | refine st_wait_out (by decide) (by decide) ?_
    | refine st_signal (by decide) (by decide) (by simp only [k0_dev1_eq, k0_dev2_eq, k0_dev3_eq, k0_dev4_eq, k0_dev5_eq, k0_dev6_eq, k0_dev7_eq, k0_dev8_eq, k0_dev9_eq, k0_dev10_eq, k0_dev11_eq, k0_dev12_eq, k0_dev13_eq, k0_dev14_eq, k0_dev15_eq, k0_dev16_eq, k0_dev17_eq, k0_dev18_eq, k0_dev19_eq, k0_dev20_eq, k0_dev21_eq, k0_dev22_eq, k0_dev23_eq, k0_dev24_eq, k0_dev25_eq, k0_dev26_eq, k0_dev27_eq, k0_dev28_eq, k0_dev29_eq, k0_dev30_eq, k0_dev31_eq, k0_dev32_eq, k0_dev33_eq, k0_dev34_eq, k0_dev35_eq, k0_dev36_eq, k0_dev37_eq, k0_dev38_eq, k0_dev39_eq, k0_dev40_eq, k0_dev41_eq, k0_dev42_eq, k0_dev43_eq, k0_dev44_eq, k0_dev45_eq, k0_dev46_eq, k0_dev47_eq, k0_dev48_eq, k0_dev49_eq, k0_dev50_eq, k0_dev51_eq, k0_dev52_eq, k0_dev53_eq, k0_dev54_eq]) rfl ?_
    | refine st_wait_credit (by decide) (by decide) (by decide) (by decide) rfl ?_)
  exact done hK

end Cert.RingProof
-- ==== Proof.Run.lean ====
/-
  The run of the whole program: eight devices, each through its kernel.
-/
module

public import proofs.«01_k».proof.Proof.Start
public import proofs.«01_k».proof.Proof.Body
public import proofs.«01_k».proof.Proof.Gen.KernelIdeal.Points
public import Idealize.ShloMosaic.Lib.Pipeline.CollectiveSegs

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig ℕ (Elt F) ℕ UU ℕ

variable (m : (ℓ : Loc nD τ sig) → Buf (Elt F) ℓ) (ρ : Dev nD → PrngReg) (c : Dev nD)

/-! ## The body -/

/-- The region's data: `w` is fetched and left alone; the kernel leads from the first to the last state. -/
def dats (_ : Fin 1) (c : Dev nD) : Dat τ (Elt F) ℕ ℕ UU ℕ cfg0 c where
  A w := m ((cfg0.win w).arr.view.loc (c : Thread nD τ))
  after w _ := match w with
    | ⟨0, _⟩ => wst m c
  Φ t := match t with
    | ⟨0, _⟩ => Φ₀ m c
    | ⟨_ + 1, _⟩ => Φ₁ m c
  q _ := fullShare
  owed t := match t with
    | ⟨0, _⟩ => O₀ c
    | ⟨_ + 1, _⟩ => 0

/-- A staging buffer whole at contents `X`. -/
abbrev stg (b : Ref sig .tc) (X : b.ty.Contents (Elt F)) : sProp 𝕄 :=
  iprop(∃ f : Buf (Elt F) ((c : Thread nD τ).loc b), ⌜f = X⌝ ∗ (((c : Thread nD τ).loc b) ↦{fullShare} f))

/-- Before the body, -/
def bodyPre : sProp 𝕄 :=
  iprop(Φ₀ m c ∗ (dats m 0 c).owesAt 0 t0_0.castSucc ∗ (∃ d, stg c cc0_stg0_0 ((dats m 0 c).before (0 : Fin 1) t0_0 d)))
/-- and after it. -/
def bodyPost : sProp 𝕄 := iprop(Φ₁ m c ∗ (dats m 0 c).owesAt 0 t0_0.succ ∗ stg c cc0_stg0_0 (wst m c))

theorem pre_of : bodyPre m c ⊢ Pre₀ m c := by
  have e : bodyPre m c ⊢ (iprop(Φ₀ m c ∗ (∃ W, owes (c : Thread nD τ) (O₀ c) W) ∗ WS m c) : sProp 𝕄) := by
    unfold bodyPre
    iintro ⟨H, Ho, ⟨%d, %g, %hg, Hw⟩⟩
    have hx : g = wst m c := by rw [hg]; unfold Dat.before; rw [if_pos (fetch0_0 t0_0)]; rfl
    subst hx
    unfold Dat.owesAt Pipeline.owesWithin
    icases Ho with ⟨%W, %hW, HO⟩
    isplitl [H]; · iexact H
    isplitl [HO]; · iexists W; iexact HO
    unfold WS
    iexact Hw
  exact e.trans (pre_intro m c)

theorem post_of : iprop(Φ₁ m c ∗ (∃ W, owes (c : Thread nD τ) 0 W) ∗ WS m c) ⊢ bodyPost m c := by
  unfold bodyPost WS
  iintro ⟨H, ⟨%W, HO⟩, Hw⟩
  isplitl [H]; · iexact H
  isplitl [HO]
  · unfold Dat.owesAt Pipeline.owesWithin
    rw [show (dats m 0 c).owed t0_0.succ = 0 from rfl]
    iexists W
    isplitr; · ipureintro; exact fun _ _ => Or.inl trivial
    iexact HO
  iexists _
  isplitr; · (ipureintro; rfl)
  iexact Hw

theorem done_of : St m c 8 8 28 24 28 28 24 4 4 4 4 none ⊢ iprop(atPos (ER : Emb UB 𝕄) (barCell c) 1 ∅ 0 -∗ |={Set.univ}=> bodyPost m c) := by
  have h : (iprop(St m c 8 8 28 24 28 28 24 4 4 4 4 none ∗ atPos (ER : Emb UB 𝕄) (barCell c) 1 ∅ 0) : sProp 𝕄) ⊢ |={Set.univ}=> bodyPost m c :=
    (close (m := m) (c := c)).trans (BI.fupd_mono (post_of m c))
  exact BI.wand_intro h

set_option maxRecDepth 100000 in
/-- The body's obligation: from the first state, with `w` fetched, it ends in the last state. -/
theorem body_obligation : BodyObligation (dats (F := F) m 0 c) (defs₀ (F := F)) 𝒱₀ 0 Set.univ := fun t => by
  rw [fin_N0 t]
  rw [bigSep_W0, bigSep_W0]
  simp only [owns_whole_eq]
  show bodyPre m c ⊢ WP c (cc0_body (Memref.whole main_arg0) (Memref.isWhole_whole _) (Memref.whole cc0_stg0_0) (Memref.isWhole_whole _) (Memref.whole main_v1) (Memref.isWhole_whole _)
      (Memref.whole cc0_scratch0) (Memref.isWhole_whole _) (Memref.whole cc0_scratch1) (Memref.isWhole_whole _) cc0_scratch2 cc0_scratch3 cc0_scratch4 cc0_scratch5 cc0_scratch6) (fun _ => bodyPost m c)
  exact (pre_of m c).trans ((body_run (Q := fun _ => iprop(|={Set.univ}=> bodyPost m c)) (done_of m c)).trans (wp_fupd frame _ Set.univ _ _))

/-! ## The launch -/

theorem rest_eq : (Pipeline.unscopedRestP Pipeline.Prefetch.none cfg0.spec c (fun b => m ((c : Thread nD τ).loc b)) : sProp 𝕄)
    = iprop((((c : Thread nD τ).loc main_arg0) ↦{fullShare} m ((c : Thread nD τ).loc main_arg0)) ∗ (((c : Thread nD τ).loc main_v1) ↦{fullShare} m ((c : Thread nD τ).loc main_v1))) :=
  (Pipeline.unscopedRestP_none _ _ _).trans (unscopedRest0_eq c _)

theorem start_intro :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [rest_eq]
  iintro ⟨⟨Hx, Hout⟩, Hlev, Hcr, -, HG⟩
  ihave Hc := creds_intro (F := F) c $$ Hcr
  imodintro
  unfold start
  isplitl
  · isplitl [HG]; · iexact HG
    isplitl [Hlev]; · iexact Hlev
    isplitl [Hc]; · iexact Hc
    isplitl [Hx]; · iexact Hx
    iexists _; iexact Hout
  · iempintro

theorem first_intro :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀
  iintro ⟨Hs, -, Hr⟩
  isplitl [Hs] <;> iassumption

/-- What device `c` holds in the end: its barrier at zero, its `x` as it was, the result. -/
def final : sProp 𝕄 :=
  iprop(unscopedSems0 c ∗ (((c : Thread nD τ).loc main_arg0) ↦{fullShare} m ((c : Thread nD τ).loc main_arg0)) ∗ (((c : Thread nD τ).loc main_v1) ↦{fullShare} OUT m c))

theorem last_exit : (dats m 0 c).Φ (Fin.last cfg0.N) ⊢ iprop(final m c ∗ Pipeline.ownSems0 osem c ∗ Pipeline.scopedRest cfg0.spec c) := by
  rw [show (dats m 0 c).Φ (Fin.last cfg0.N) = Φ₁ m c from rfl, scopedRest0_eq]
  unfold Φ₁ final
  rw [sems0_eq, unscopedSems0_eq]
  iintro ⟨Hx, Hout, Hs0, Hs1, HB, Ho⟩
  isplitl [Hx Hout HB]
  · isplitl [HB]; · iexact HB
    isplitl [Hx] <;> iassumption
  isplitl [Ho]; · iexact Ho
  isplitl [Hs0] <;> iassumption

theorem waits : (levAts L lv : sProp 𝕄) ⊢ Pipeline.cellsWaits cfgs (dats m) 0 0 c :=
  Pipeline.cellsWaits_intro cfgs (dats m) 0 0 c fun w s t =>
    mayWait_stage c _ (by fin_cases w <;> fin_cases s <;> decide) _ (by
      rcases t with ⟨_ | _, ht⟩
      · exact Or.inl rfl
      · exact Or.inr rfl)

/-- What the final memory shows at device `c`. -/
def Ends (s : MemSt nD τ sig (Elt F)) : Prop :=
  (∀ sm : SemLoc sig, sm.isScoped .tc = false → s.sem ((c.tc : Thread nD τ), sm) = 0)
    ∧ s.mem ((c : Thread nD τ).loc main_arg0) = m ((c : Thread nD τ).loc main_arg0)
    ∧ s.mem ((c : Thread nD τ).loc main_v1) = OUT m c

theorem read_final (s' : Phys nD τ sig (Elt F)) :
    iprop(final m c ∗ (emp : sProp 𝕄) ∗ SI s') ⊢ |={Set.univ}=> iprop(⌜Ends m c s'.mem⌝ ∗ SI s') := by
  unfold final
  iintro ⟨⟨Hu, Hx, Hout⟩, -, HSI⟩
  icombine HSI Hx gives %hx
  icombine HSI Hout gives %ho
  imod (Pipeline.unscopedSems0_read (X := unscopedSems0 c) (c := c) fupd_intro s') $$ [Hu HSI] with ⟨%hu, HSI⟩
  · isplitl [Hu] <;> iassumption
  imodintro
  isplitr
  · ipureintro
    exact ⟨hu, Buf.eq_of_forall_mem_univ hx, Buf.eq_of_forall_mem_univ ho⟩
  iexact HSI

/-- The final state of the program: every device holds `relu` of its ring sum, its operands as they were, and every
    counter is zero. -/
def Result (s : MemSt nD τ sig (Elt F)) : Prop :=
  (∀ c : Dev nD, s.mem ((c : Thread nD τ).loc main_arg0) = m ((c : Thread nD τ).loc main_arg0)
    ∧ s.mem ((c : Thread nD τ).loc main_arg1) = m ((c : Thread nD τ).loc main_arg1)
    ∧ s.mem ((c : Thread nD τ).loc main_v1) = OUT m c)
  ∧ s.sem = fun _ => 0

set_option maxRecDepth 100000 in
/-- For any float values and any memory whose counters are zero, every weakly fair run of the eight devices ends, and
    ends in the final state. -/
theorem run_main : θ_run defs (onTc (τ := τ) (main (F := F))) ⟨m, fun _ => 0, ρ⟩ (fun r => Result m r.2) :=
  Pipeline.θ_run_region_owing_glob_pf (fun p => (cfgs p).toPCfg) (fun p => (cfgs p).toPCfg_adm) (dats m) 0 cellOf_inj (0 : Fin 1)
    winFacts0.to₀ ownSemFacts (Pipeline.PreFacts.none _) EP defs₀ 𝒱₀ m ρ main
    (hmain := fun _ => rfl)
    (hbody := body_obligation m) (hne := fun w => by fin_cases w <;> exact Nat.succ_pos _) (harr := arr_whole0) (hstage := stage_whole0)
    (hshare := fun c w => by unfold Dat.share; split <;> rfl) (hdistinct := winFacts0.arr_inj)
    (O₀ := O₀) (howed₀ := fun _ => rfl) (howedN := fun _ => rfl)
    (L := L) (lv := lv) (hL := L_of_ne) (hwaits := waits m)
    (G := G m) (G' := G' m) (u₀ := u₀) (hu₀ := mint m) (hglob := glob m)
    (hA := fun _ _ => rfl) (hpf := fun _ k => k.elim0)
    (X := start m) (Y := final m) (Z := fun _ => iprop(emp))
    (hX := start_intro m ρ) (hin := first_intro m) (hout := last_exit m)
    (QY := Ends m) (hY := read_final m)
    (hQ := fun s h hs => ⟨fun c => ⟨(h c).2.2.2.1, ((h c).1 0).trans ((dats (F := F) m 0 c).arrAt_in (0 : Fin 1) rfl _), (h c).2.2.2.2⟩, sem_eq_zero hs fun c => (h c).2.2.1⟩)

end Cert.RingProof
-- ==== Proof.Product.lean ====
/-
  What one block of the ring computes, over the ideal floats: a row chunk times a column tile, read at an element.
-/
module

public import proofs.«01_k».proof.Proof.Memory
public import Idealize.ShloMosaic.Lib.MatmulPlain
public import Idealize.ShloMosaic.Lib.Pipeline.Value
public import Idealize.ShloMosaic.Lib.Layout

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

open Idealize.ShloMosaic.ValueIdx

variable {m : (ℓ : Loc nD τ sig) → Buf (Elt Ideal) ℓ}

/-- A product of two blocks is the sum of products over the middle coordinate. -/
theorem mm_apply (X W : Blk Ideal) (r n : Fin 1024) : mm X W (ix2 r n) = ∑ k : Fin 1024, X (ix2 r k) * W (ix2 k n) := by
  unfold mm
  rw [shapeCast_self]
  refine (Ideal.matmul_plain_apply (M := 1024) (K := 1024) (N := 1024) none X W (constant S1024x1024 .f32 0x00000000#32) r n).trans ?_
  show Ideal.ofBits .f32 0x00000000#32 + _ = _
  rw [Ideal.ofBits_zero_f32, zero_add]

/-- Copy `i` brings device `c` the rows of its `x` that belong to device `(c + 7 - i) mod 8`. -/
theorem Xc_apply (c : Dev nD) (i : ℕ) (r k : Fin 1024) :
    Xc m c i (ix2 r k) = m ((c : Thread nD τ).loc main_arg0) (ix2 ⟨1024 * ((c.val + 7 - i) % 8) + r.val, by omega⟩ k : S8192x1024.Idx) := by
  show m ((c : Thread nD τ).loc main_arg0) ((xR c i).emb (ix2 r k)) = _
  refine congrArg _ (funext fun a => Fin.ext ?_)
  have e := ValueKit.rect_emb_unit_val (s := S8192x1024) ![1024 * ((c.val + 7 - i) % 8), 0] S1024x1024.size (inb_x c.val i) (ix2 r k) a
  fin_cases a
  · exact e
  · exact e.trans (Nat.zero_add _)

/-- The staging buffer holds the device's `w`. -/
theorem wst_eq (c : Dev nD) : wst m c = m ((c : Thread nD τ).loc main_arg1) := by
  unfold wst
  funext j
  show m ((c : Thread nD τ).loc main_arg1) ((win0_0.rect (0 : Fin 1)).emb j) = m ((c : Thread nD τ).loc main_arg1) j
  refine congrArg _ (funext fun a => Fin.ext ?_)
  refine (ValueKit.rect_emb_unit_val (s := S1024x4096) _ _ _ j a).trans ?_
  fin_cases a <;> exact Nat.zero_add _

/-- Column tile `t` of the device's `w`. -/
theorem wT_apply (c : Dev nD) (t : ℕ) (k n : Fin 1024) :
    wT m c t (ix2 k n) = m ((c : Thread nD τ).loc main_arg1) (ix2 k ⟨1024 * (t % 4) + n.val, by omega⟩ : S1024x4096.Idx) := by
  unfold wT
  rw [wst_eq]
  show m ((c : Thread nD τ).loc main_arg1) ((colR t).emb (ix2 k n)) = _
  refine congrArg _ (funext fun a => Fin.ext ?_)
  have e := ValueKit.rect_emb_unit_val (s := S1024x4096) ![0, 1024 * (t % 4)] S1024x1024.size (inb_col t) (ix2 k n) a
  fin_cases a
  · exact e.trans (Nat.zero_add _)
  · exact e

end Cert.RingProof
-- ==== Proof.Sum.lean ====
/-
  The value of the run over the ideal floats: the ring's sum on device `c` is block `c` of the reference's `relu (x @ w)`.
-/
module

public import proofs.«01_k».proof.Proof.Product
public import proofs.«01_k».proof.Proof.Gen.ReferenceIdeal
public import Idealize.ShloMosaic.Lib.StackMember
public import Mathlib.Logic.Equiv.Fin.Basic

@[expose] public section

set_option backward.proofsInPublic true

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

open Idealize.ShloMosaic.ValueIdx

/-! ## Sums of eight segments -/

/-- Device `n` of the ring, counted on from any number. -/
def dev (n : ℕ) : Dev nD := ⟨n % 8, Nat.mod_lt _ (by decide)⟩

/-- Going once round the ring from `c + 1` meets every device once. -/
theorem round_sum (c : Dev nD) (D : Dev nD → EReal) : ∑ u ∈ Finset.range 8, D (dev (c.val + u + 1)) = ∑ d, D d := by
  have hb : ∀ c : Fin 8, Function.Bijective fun u : Fin 8 => (dev (c.val + u.val + 1) : Fin 8) := fun c =>
    (Finite.injective_iff_bijective).mp ((by decide : ∀ c : Fin 8, Function.Injective fun u : Fin 8 => (dev (c.val + u.val + 1) : Fin 8)) c)
  rw [Finset.sum_range]
  exact Fintype.sum_bijective _ (hb c) _ _ fun _ => rfl

/-- A sum over 8192 places is the sum over eight segments of 1024. -/
theorem segment_sum (f : Fin 8192 → EReal) : ∑ d : Fin 8, ∑ k : Fin 1024, f ⟨d.val * 1024 + k.val, by omega⟩ = ∑ K, f K := by
  rw [← Equiv.sum_comp (finProdFinEquiv : Fin 8 × Fin 1024 ≃ Fin 8192) f, Fintype.sum_prod_type]
  refine Finset.sum_congr rfl fun d _ => Finset.sum_congr rfl fun k _ => congrArg f (Fin.ext ?_)
  show d.val * 1024 + k.val = k.val + 1024 * d.val
  omega

/-! ## The ring's sum -/

section
variable {m : (ℓ : Loc nD τ sig) → Buf (Elt Ideal) ℓ}
variable {X : (⟨2, ![8192, 8192]⟩ : Shape).Idx → EReal} {W : (⟨2, ![8192, 4096]⟩ : Shape).Idx → EReal}

/-- Device `d`'s share of the product `X @ W` at an element: the sum over its own segment. -/
def share (X : (⟨2, ![8192, 8192]⟩ : Shape).Idx → EReal) (W : (⟨2, ![8192, 4096]⟩ : Shape).Idx → EReal) (R : Fin 8192) (n : Fin 4096) (d : Dev nD) : EReal :=
  ∑ k : Fin 1024, X (ix2 R ⟨d.val * 1024 + k.val, by have := d.isLt; have : nD = 8 := rfl; omega⟩) * W (ix2 ⟨d.val * 1024 + k.val, by have := d.isLt; have : nD = 8 := rfl; omega⟩ n)

variable (hX : ∀ c : Dev nD, m ((c : Thread nD τ).loc main_arg0) = Layout.block ⟨2, ![8192, 1024]⟩ ⟨2, ![8192, 8192]⟩ 1 8 c X)
  (hW : ∀ c : Dev nD, m ((c : Thread nD τ).loc main_arg1) = Layout.block ⟨2, ![1024, 4096]⟩ ⟨2, ![8192, 4096]⟩ 0 8 c W)

include hX hW in
/-- A device's own product is its share. -/
theorem product (d : Dev nD) (s t : ℕ) (r n : Fin 1024) :
    mm (Xc m d s) (wT m d t) (ix2 r n)
      = share X W ⟨1024 * ((d.val + 7 - s) % 8) + r.val, by omega⟩ ⟨1024 * (t % 4) + n.val, by omega⟩ d := by
  rw [mm_apply]
  unfold share
  refine Finset.sum_congr rfl fun k _ => ?_
  rw [Xc_apply, wT_apply, hX, hW]
  refine congrArg₂ (· * ·) ?_ ?_
  · rw [Layout.block_apply]
    refine congrArg X (funext fun a => Fin.ext ?_)
    fin_cases a <;> rfl
  · rw [Layout.block_apply]
    refine congrArg W (funext fun a => Fin.ext ?_)
    fin_cases a <;> rfl

include hX hW in
/-- The partial sum of round `s` that will end on device `c` collects the shares of the devices from `c + 1` on. -/
theorem part_apply (c : Dev nD) (t : ℕ) (r n : Fin 1024) : ∀ (s : ℕ) (d : Dev nD), s ≤ 7 → (d.val + 7 - s) % 8 = c.val →
    part m d s t (ix2 r n) = ∑ u ∈ Finset.range (s + 1),
      share X W ⟨1024 * c.val + r.val, by have := c.isLt; have : nD = 8 := rfl; omega⟩ ⟨1024 * (t % 4) + n.val, by omega⟩ (dev (c.val + u + 1))
  | 0, d, _, h => by
    have hd : d.val < 8 := d.isLt
    have e : dev (c.val + 0 + 1) = d := Fin.ext (show (c.val + 0 + 1) % 8 = d.val by omega)
    rw [Finset.sum_range_one, e]
    refine (product hX hW d 0 t r n).trans ?_
    simp only [h]
  | s + 1, d, hs, h => by
    have hd : d.val < 8 := d.isLt
    have hp : (prv d).val = (d.val + 7) % 8 := rfl
    have e : dev (c.val + (s + 1) + 1) = d := Fin.ext (show (c.val + (s + 1) + 1) % 8 = d.val by omega)
    rw [Finset.sum_range_succ, ← part_apply c t r n s (prv d) (by omega) (by omega), e]
    show part m (prv d) s t (ix2 r n) + mm (Xc m d (s + 1)) (wT m d t) (ix2 r n) = _
    rw [product hX hW]
    simp only [h]

include hX hW in
/-- Device `c`'s result at an element: the whole product there, cut off below at zero. -/
theorem out_apply (c : Dev nD) (r : Fin 1024) (n : Fin 4096) :
    OUT m c (ix2 r n : S1024x4096.Idx)
      = max (∑ K : Fin 8192, X (ix2 (⟨1024 * c.val + r.val, by have := c.isLt; have : nD = 8 := rfl; omega⟩ : Fin 8192) K) * W (ix2 K n)) 0 := by
  have hc : c.val < 8 := c.isLt
  have hi : inTile (ix2 r n : S1024x4096.Idx) = ix2 r ⟨n.val % 1024, Nat.mod_lt _ (by decide)⟩ := funext fun a => Fin.ext (by
    fin_cases a
    · exact Nat.mod_eq_of_lt r.isLt
    · rfl)
  have hn : (⟨1024 * (n.val / 1024 % 4) + n.val % 1024, by omega⟩ : Fin 4096) = n := Fin.ext (by show 1024 * (n.val / 1024 % 4) + n.val % 1024 = n.val; omega)
  show max (part m c 7 (n.val / 1024) (inTile (ix2 r n : S1024x4096.Idx))) (Ideal.ofBits .f32 0x00000000#32) = _
  rw [Ideal.ofBits_zero_f32, hi, part_apply hX hW c (n.val / 1024) r _ 7 c le_rfl (by omega), hn, round_sum c]
  refine congrArg (max · 0) ?_
  exact segment_sum fun K => X (ix2 (⟨1024 * c.val + r.val, by omega⟩ : Fin 8192) K) * W (ix2 K n)

/-- The reference's result. -/
def want (X : (⟨2, ![8192, 8192]⟩ : Shape).Idx → EReal) (W : (⟨2, ![8192, 4096]⟩ : Shape).Idx → EReal) : (⟨2, ![8192, 4096]⟩ : Shape).Idx → EReal :=
  maximumf (F := Ideal) (φ := .f32) (Host.dotGeneral (F := Ideal) (φ₁ := .f32) (φ₂ := .f32) Cert.ReferenceIdeal.dot_S8192x8192_S8192x4096_S8192x4096_1_0_0_1_n_n none X W)
    (broadcastInDim Cert.ReferenceIdeal.S8192x4096 ![] Cert.ReferenceIdeal.Facts₀.bcast_S_S8192x4096 (constant (F := Ideal) Cert.ReferenceIdeal.S_ .f32 0x00000000#32))

theorem want_apply (R : Fin 8192) (n : Fin 4096) : want X W (ix2 R n) = max (∑ K : Fin 8192, X (ix2 R K) * W (ix2 K n)) 0 := by
  refine (congrArg₂ max (Idealize.ShloMosaic.StackMember.dotGeneral_plain_apply (m := 8192) (k := 8192) (n := 4096) none X W R n) (Ideal.ofBits_zero_f32 : _ = (0 : EReal)) : _)

include hX hW in
/-- Device `c`'s result is block `c` of the reference's. -/
theorem out_block (c : Dev nD) : OUT m c = Layout.block ⟨2, ![1024, 4096]⟩ ⟨2, ![8192, 4096]⟩ 0 8 c (want X W) := by
  funext i
  obtain ⟨r, n, rfl⟩ : ∃ r n, i = ix2 r n := ⟨i 0, i 1, eq_ix2 i⟩
  rw [Layout.block_apply, out_apply hX hW, ← want_apply]
  refine congrArg (want X W) (funext fun a => Fin.ext ?_)
  fin_cases a
  · show 1024 * c.val + r.val = c.val * 1024 + r.val; omega
  · rfl

end

end Cert.RingProof
-- ==== Proof.Same.lean ====
/-
  The kernel and its idealization have the same text: a run of the one at bit patterns is a run of the other.
-/
module

public import proofs.«01_k».proof.Defs
public import proofs.«01_k».proof.Proof.Gen.Kernel
public import proofs.«01_k».proof.Proof.Gen.KernelIdeal

@[expose] public section

noncomputable section

namespace Cert.RingProof

open Idealize.ShloMosaic Idealize.SL.Sem Cert.KernelIdeal

/-- The two body tables are the same, -/
theorem same_bodies : (Cert.Kernel.defs₀ (F := Bits) : Defs nD τ sig (Elt Bits) Λ₀) = defs₀ := by
  refine congrArg Defs.onTc (funext fun l => funext fun a => ?_)
  match l, a with
  | ⟨0, _⟩, _ => rfl

/-- and so are the tables with the pipeline's regions. -/
theorem same_defs : (Cert.Kernel.defs (F := Bits) : Defs nD τ sig (Elt Bits) _) = defs (F := Bits) :=
  congrArg (Pipeline.defs (pcfgs (F := Bits))) same_bodies

/-- What holds of every run of the idealization at bit patterns holds of every run of the kernel. -/
theorem same_run (m : (ℓ : Loc nD τ sig) → Buf (Elt Bits) ℓ) (ρ : Dev nD → PrngReg) (Q : PUnit × MemSt nD τ sig (Elt Bits) → Prop)
    (h : θ_run (defs (F := Bits)) (onTc (τ := τ) (main (F := Bits))) ⟨m, fun _ => 0, ρ⟩ Q) :
    θ_run (Cert.Kernel.defs (F := Bits)) (onTc (τ := Cert.Kernel.τ) (Cert.Kernel.main (F := Bits))) ⟨m, fun _ => 0, ρ⟩ Q :=
  (congrArg (fun D => θ_run D (onTc (τ := τ) (main (F := Bits))) ⟨m, fun _ => 0, ρ⟩ Q) same_defs).mpr h

end Cert.RingProof
-- ==== Proof.lean ====
/-
  The five claims, put together from the run of the ring, the run of the reference and the equation of their results.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Run
public import proofs.«01_k».proof.Proof.Sum
public import proofs.«01_k».proof.Proof.Same
public import Idealize.ShloMosaic.Adequacy
public import Idealize.ShloMosaic.Init

@[expose] public section

noncomputable section

namespace Cert.Proof

open Idealize.ShloMosaic Idealize.SL.Sem Cert.Kernel

/-- The kernel at bit patterns ends, its operands as they were and every counter at zero. -/
theorem frame_kernel : Cert.quiescent_Kernel := fun m ρ _ =>
  Cert.RingProof.same_run m ρ _ ((θ_run Cert.KernelIdeal.defs _ _).mono (fun _ h => ⟨fun c => ⟨(h.1 c).1, (h.1 c).2.1⟩, h.2⟩)
    (Cert.RingProof.run_main (F := Bits) m ρ))

/-- So does the kernel at ideal floats. -/
theorem frame_ideal : Cert.quiescent_KernelIdeal := fun m ρ _ =>
  (θ_run Cert.KernelIdeal.defs _ _).mono (fun _ h => ⟨fun c => ⟨(h.1 c).1, (h.1 c).2.1⟩, h.2⟩) (Cert.RingProof.run_main (F := Ideal) m ρ)

/-- So does the reference, which has no counter. -/
theorem frame_reference : Cert.quiescent_ReferenceIdeal := fun m ρ _ =>
  (θ_run Cert.ReferenceIdeal.defs _ _).mono (fun r h => ⟨fun c => (h c).2, sem_eq_zero_of_no_sems (by decide) r.2⟩) (Cert.ReferenceIdeal.Value.run (F := Ideal) m ρ)

/-- On the whole operands' blocks the ring computes the blocks of the reference's result. -/
theorem value : Cert.algebraic_KernelIdeal_ReferenceIdeal := fun m ρ m' ρ' _ hm =>
  ⟨Cert.RingProof.want (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1)),
    (θ_run Cert.KernelIdeal.defs _ _).mono
      (fun _ h c => ⟨((h.1 c).2.2).trans (Cert.RingProof.out_block (fun d => (hm d).1) (fun d => (hm d).2) c), (h.1 c).1, (h.1 c).2.1⟩)
      (Cert.RingProof.run_main (F := Ideal) m ρ),
    (θ_run Cert.ReferenceIdeal.defs _ _).mono (fun _ h => h 0) (Cert.ReferenceIdeal.Value.run (F := Ideal) m' ρ')⟩

theorem claim : Cert.Claim :=
  ⟨Cert.Kernel.Gen.facts, Cert.KernelIdeal.Gen.facts, Cert.ReferenceIdeal.Gen.facts, frame_kernel, frame_ideal, frame_reference, trivial, value⟩

end Cert.Proof

end
